-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sinusoidal [hPre_sinusoidal : Cert.Pre_sinusoidal.Facts] (m : (ℓ : Loc Cert.KernelIdeal.nD Cert.KernelIdeal.τ Cert.KernelIdeal.sig) → Buf (Elt Ideal) ℓ) : Prop :=
  ∀ c : Dev Cert.KernelIdeal.nD,
    (Cert.Pre_sinusoidal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sinusoidal [hPre_sinusoidal : Cert.Pre_sinusoidal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sinusoidal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sinusoidal [hKernelIdeal : Cert.KernelIdeal.Facts] [hPre_sinusoidal : Cert.Pre_sinusoidal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sinusoidal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sinusoidal [hReferenceIdeal : Cert.ReferenceIdeal.Facts] [hPre_sinusoidal : Cert.Pre_sinusoidal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sinusoidal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sinusoidal [hKernelIdeal : Cert.KernelIdeal.Facts] [hReferenceIdeal : Cert.ReferenceIdeal.Facts] [hPre_sinusoidal : Cert.Pre_sinusoidal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sinusoidal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sinusoidal : Cert.Pre_sinusoidal.Facts),
    quiescent_Kernel (hKernel := hKernel)
    ∧ quiescent_KernelIdeal (hKernelIdeal := hKernelIdeal)
    ∧ quiescent_KernelIdeal_pre_sinusoidal (hKernelIdeal := hKernelIdeal) (hPre_sinusoidal := hPre_sinusoidal)
    ∧ quiescent_ReferenceIdeal (hReferenceIdeal := hReferenceIdeal)
    ∧ quiescent_ReferenceIdeal_pre_sinusoidal (hReferenceIdeal := hReferenceIdeal) (hPre_sinusoidal := hPre_sinusoidal)
    ∧ preserves_Kernel_KernelIdeal
    ∧ algebraic_KernelIdeal_ReferenceIdeal_pre_sinusoidal (hKernelIdeal := hKernelIdeal) (hReferenceIdeal := hReferenceIdeal) (hPre_sinusoidal := hPre_sinusoidal)
-- ==== Pre_sinusoidal.lean ====
abbrev S4x8192 : Shape := ⟨2, ![4, 8192]⟩
abbrev S8192x1024 : Shape := ⟨2, ![8192, 1024]⟩
abbrev S8192x512 : Shape := ⟨2, ![8192, 512]⟩
abbrev S1x512 : Shape := ⟨2, ![1, 512]⟩
abbrev S_ : Shape := ⟨0, ![]⟩
abbrev S8191x512 : Shape := ⟨2, ![8191, 512]⟩
abbrev S8193x512 : Shape := ⟨2, ![8193, 512]⟩

class Facts : Prop where
  slicesBy_S8192x1024_S8192x512_0s1_0s2 : S8192x1024.SlicesBy (![0, 0] : Fin 2 → Nat) ![1, 2] S8192x512
  slicesBy_S8192x1024_S8192x512_0s1_1s2 : S8192x1024.SlicesBy (![0, 1] : Fin 2 → Nat) ![1, 2] S8192x512
  slices_S8192x512_S1x512_1_0 : S8192x512.Slices ![1, 0] S1x512
  slices_S8192x512_S1x512_0_0 : S8192x512.Slices ![0, 0] S1x512
  bcast_S_S1x512 : S_.BroadcastsInDim S1x512 (![] : Fin 0 → Fin S1x512.rank)
  slices_S8192x512_S8191x512_1_0 : S8192x512.Slices ![1, 0] S8191x512
  slices_S8192x512_S8191x512_0_0 : S8192x512.Slices ![0, 0] S8191x512
  bcast_S1x512_S8191x512_0_1 : S1x512.BroadcastsInDim S8191x512 (![0, 1] : Fin 2 → Fin S8191x512.rank)
  concatenates_S1x512_S1x512_S8191x512_S8193x512_d0 : Shape.Concatenates [S1x512, S1x512, S8191x512] S8193x512 0

variable [Facts]

def fn_part1 {F : FTy → Type} [FloatOps F] (main_v0 : FVec F S8192x512 .f32) (main_v1 : FVec F S8192x512 .f32) (main_v2 : FVec F S1x512 .f32) (main_v3 : FVec F S1x512 .f32) (main_v10 : IVec S1x512 1) (main_v15 : IVec S1x512 1) (main_v16 : FVec F S8191x512 .f32) (main_v19 : FVec F S8191x512 .f32) (main_v20 : FVec F S8191x512 .f32) : IVec S8193x512 1 :=
  let main_v21 : FVec F S8191x512 .f32 := broadcastInDim S8191x512 ![0, 1] bcast_S1x512_S8191x512_0_1 main_v2
  let main_v22 : FVec F S8191x512 .f32 := mulf main_v20 main_v21
  let main_v23 : FVec F S8191x512 .f32 := addf main_v19 main_v22
  let main_v24 : IVec S8191x512 1 := cmpf .oeq main_v16 main_v23
  let main_v25 : FVec F S8191x512 .f32 := (extractStridedSlice S8191x512 ![1, 0] · slices_S8192x512_S8191x512_1_0) main_v1
  let main_v26 : FVec F S8191x512 .f32 := (extractStridedSlice S8191x512 ![0, 0] · slices_S8192x512_S8191x512_0_0) main_v1
  let main_v27 : FVec F S8191x512 .f32 := broadcastInDim S8191x512 ![0, 1] bcast_S1x512_S8191x512_0_1 main_v3
  let main_v28 : FVec F S8191x512 .f32 := mulf main_v26 main_v27
  let main_v29 : FVec F S8191x512 .f32 := (extractStridedSlice S8191x512 ![0, 0] · slices_S8192x512_S8191x512_0_0) main_v0
  let main_v30 : FVec F S8191x512 .f32 := broadcastInDim S8191x512 ![0, 1] bcast_S1x512_S8191x512_0_1 main_v2
  let main_v31 : FVec F S8191x512 .f32 := mulf main_v29 main_v30
  let main_v32 : FVec F S8191x512 .f32 := subf main_v28 main_v31
  let main_v33 : IVec S8191x512 1 := cmpf .oeq main_v25 main_v32
  let main_v34 : IVec S8191x512 1 := andi main_v24 main_v33
  let main_v35 : IVec S8193x512 1 := concatenate S8193x512 0 [⟨S1x512, main_v10⟩, ⟨S1x512, main_v15⟩, ⟨S8191x512, main_v34⟩] concatenates_S1x512_S1x512_S8191x512_S8193x512_d0
  main_v35

def fn {F : FTy → Type} [FloatOps F] (main_arg0 : IVec S4x8192 32) (main_arg1 : FVec F S8192x1024 .f32) : IVec S8193x512 1 :=
  let main_v0 : FVec F S8192x512 .f32 := (Host.slice S8192x512 ![0, 0] ![1, 2] · slicesBy_S8192x1024_S8192x512_0s1_0s2) main_arg1
  let main_v1 : FVec F S8192x512 .f32 := (Host.slice S8192x512 ![0, 1] ![1, 2] · slicesBy_S8192x1024_S8192x512_0s1_1s2) main_arg1
  let main_v2 : FVec F S1x512 .f32 := (extractStridedSlice S1x512 ![1, 0] · slices_S8192x512_S1x512_1_0) main_v0
  let main_v3 : FVec F S1x512 .f32 := (extractStridedSlice S1x512 ![1, 0] · slices_S8192x512_S1x512_1_0) main_v1
  let main_v4 : FVec F S1x512 .f32 := (extractStridedSlice S1x512 ![0, 0] · slices_S8192x512_S1x512_0_0) main_v0
  let main_cst : FVec F S_ .f32 := constant S_ .f32 0x00000000#32
  let main_v5 : FVec F S1x512 .f32 := broadcastInDim S1x512 ![] bcast_S_S1x512 main_cst
  let main_v6 : IVec S1x512 1 := cmpf .oeq main_v4 main_v5
  let main_v7 : FVec F S1x512 .f32 := (extractStridedSlice S1x512 ![0, 0] · slices_S8192x512_S1x512_0_0) main_v1
  let main_cst_0 : FVec F S_ .f32 := constant S_ .f32 0x3F800000#32
  let main_v8 : FVec F S1x512 .f32 := broadcastInDim S1x512 ![] bcast_S_S1x512 main_cst_0
  let main_v9 : IVec S1x512 1 := cmpf .oeq main_v7 main_v8
  let main_v10 : IVec S1x512 1 := andi main_v6 main_v9
  let main_v11 : FVec F S1x512 .f32 := mulf main_v2 main_v2
  let main_v12 : FVec F S1x512 .f32 := mulf main_v3 main_v3
  let main_v13 : FVec F S1x512 .f32 := addf main_v11 main_v12
  let main_cst_1 : FVec F S_ .f32 := constant S_ .f32 0x3F800000#32
  let main_v14 : FVec F S1x512 .f32 := broadcastInDim S1x512 ![] bcast_S_S1x512 main_cst_1
  let main_v15 : IVec S1x512 1 := cmpf .oeq main_v13 main_v14
  let main_v16 : FVec F S8191x512 .f32 := (extractStridedSlice S8191x512 ![1, 0] · slices_S8192x512_S8191x512_1_0) main_v0
  let main_v17 : FVec F S8191x512 .f32 := (extractStridedSlice S8191x512 ![0, 0] · slices_S8192x512_S8191x512_0_0) main_v0
  let main_v18 : FVec F S8191x512 .f32 := broadcastInDim S8191x512 ![0, 1] bcast_S1x512_S8191x512_0_1 main_v3
  let main_v19 : FVec F S8191x512 .f32 := mulf main_v17 main_v18
  let main_v20 : FVec F S8191x512 .f32 := (extractStridedSlice S8191x512 ![0, 0] · slices_S8192x512_S8191x512_0_0) main_v1
  fn_part1 (F := F) main_v0 main_v1 main_v2 main_v3 main_v10 main_v15 main_v16 main_v19 main_v20
-- ==== Kernel.lean ====
abbrev S4x8192 : Shape := ⟨2, ![4, 8192]⟩
abbrev S8192x1024 : Shape := ⟨2, ![8192, 1024]⟩
abbrev S4x8192x1024 : Shape := ⟨3, ![4, 8192, 1024]⟩
abbrev S512x1024 : Shape := ⟨2, ![512, 1024]⟩
abbrev S8x1024 : Shape := ⟨2, ![8, 1024]⟩
abbrev S3x512x1024 : Shape := ⟨3, ![3, 512, 1024]⟩
abbrev S3x4 : Shape := ⟨2, ![3, 4]⟩
abbrev S512x1023 : Shape := ⟨2, ![512, 1023]⟩
abbrev S512x1 : Shape := ⟨2, ![512, 1]⟩
abbrev S1x1 : Shape := ⟨2, ![1, 1]⟩
abbrev S_ : Shape := ⟨0, ![]⟩
abbrev S1x512x1024 : Shape := ⟨3, ![1, 512, 1024]⟩
abbrev S1x1024 : Shape := ⟨2, ![1, 1024]⟩
abbrev S1x1023 : Shape := ⟨2, ![1, 1023]⟩

abbrev nBuf : Space → Nat
  | .hbm => 3
  | .vmem => 6
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S4x8192x1024, .f32⟩
  | .local _ .vmem, ⟨0, _⟩ => ⟨S512x1024, .f32⟩
  | .local _ .vmem, ⟨1, _⟩ => ⟨S8x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S3x512x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c3_i32_5 : BitVec 32 := 3#32
  let v13 : BitVec 1 := Scalar.cmpi .sge arg0 c3_i32_5
  let v14 : BitVec 32 := Scalar.extui v13
  let c0_i32_6 : BitVec 32 := 0#32
  let v15 : BitVec 1 := Scalar.cmpi .ne v14 c0_i32_6
  v15

def k0_off1 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_47 : BitVec 32 := 0#32
  ![v9.toNat, 0]
def k0_off2 (i : grid0.Coords) : Fin 3 → Nat :=
  let c0_i32_46 : BitVec 32 := 0#32
  let arg0 : BitVec 32 := BitVec.ofNat 32 (i 0).val
  let c3_i32_44 : BitVec 32 := 3#32
  let v87 : BitVec 32 := Scalar.subi arg0 c3_i32_44
  let c512_i32_45 : BitVec 32 := 512#32
  let v88 : BitVec 32 := Scalar.muli v87 c512_i32_45
  let c0_i32_48 : BitVec 32 := 0#32
  ![0, v88.toNat, 0]
def k0_off3 (i : grid0.Coords) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_49 : BitVec 32 := 0#32
  let c0_i32_50 : BitVec 32 := 0#32
  ![v9.toNat, 0, 0]
def k0_off4 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_54 : BitVec 32 := 1#32
  ![v9.toNat, 1]
def k0_off5 (i : grid0.Coords) : Fin 3 → Nat :=
  let c1_i32_53 : BitVec 32 := 1#32
  let arg0 : BitVec 32 := BitVec.ofNat 32 (i 0).val
  let c3_i32_51 : BitVec 32 := 3#32
  let v95 : BitVec 32 := Scalar.subi arg0 c3_i32_51
  let c512_i32_52 : BitVec 32 := 512#32
  let v96 : BitVec 32 := Scalar.muli v95 c512_i32_52
  let c0_i32_55 : BitVec 32 := 0#32
  ![1, v96.toNat, 0]
def k0_off6 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_61 : BitVec 32 := 2#32
  ![v9.toNat, 2]
def k0_off7 (i : grid0.Coords) : Fin 3 → Nat :=
  let c2_i32_60 : BitVec 32 := 2#32
  let arg0 : BitVec 32 := BitVec.ofNat 32 (i 0).val
  let c3_i32_58 : BitVec 32 := 3#32
  let v103 : BitVec 32 := Scalar.subi arg0 c3_i32_58
  let c512_i32_59 : BitVec 32 := 512#32
  let v104 : BitVec 32 := Scalar.muli v103 c512_i32_59
  let c0_i32_62 : BitVec 32 := 0#32
  ![2, v104.toNat, 0]
def k0_off8 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_68 : BitVec 32 := 3#32
  ![v9.toNat, 3]
def k0_off9 (i : grid0.Coords) : Fin 3 → Nat :=
  let c3_i32_67 : BitVec 32 := 3#32
  let arg0 : BitVec 32 := BitVec.ofNat 32 (i 0).val
  let c3_i32_65 : BitVec 32 := 3#32
  let v111 : BitVec 32 := Scalar.subi arg0 c3_i32_65
  let c512_i32_66 : BitVec 32 := 512#32
  let v112 : BitVec 32 := Scalar.muli v111 c512_i32_66
  let c0_i32_69 : BitVec 32 := 0#32
  ![3, v112.toNat, 0]
def k0_off10 (i : grid0.Coords) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v52 : Index := Scalar.indexCast v9
  let c0_18 : Index := 0#32
  let c0_19 : Index := 0#32
  ![v52.toNat, 0, 0]
def k0_off11 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_21 : BitVec 32 := 0#32
  ![v9.toNat, 0]
def k0_off12 (i : grid0.Coords) : Fin 3 → Nat :=
  let c0_i32_20 : BitVec 32 := 0#32
  let arg0 : BitVec 32 := BitVec.ofNat 32 (i 0).val
  let c512_i32 : BitVec 32 := 512#32
  let v56 : BitVec 32 := Scalar.muli arg0 c512_i32
  let c0_i32_22 : BitVec 32 := 0#32
  ![0, v56.toNat, 0]
def k0_off13 (i : grid0.Coords) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_23 : BitVec 32 := 0#32
  let c0_i32_24 : BitVec 32 := 0#32
  ![v9.toNat, 0, 0]
def k0_off14 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_27 : BitVec 32 := 1#32
  ![v9.toNat, 1]
def k0_off15 (i : grid0.Coords) : Fin 3 → Nat :=
  let c1_i32_26 : BitVec 32 := 1#32
  let arg0 : BitVec 32 := BitVec.ofNat 32 (i 0).val
  let c512_i32_25 : BitVec 32 := 512#32
  let v63 : BitVec 32 := Scalar.muli arg0 c512_i32_25
  let c0_i32_28 : BitVec 32 := 0#32
  ![1, v63.toNat, 0]
def k0_off16 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_33 : BitVec 32 := 2#32
  ![v9.toNat, 2]
def k0_off17 (i : grid0.Coords) : Fin 3 → Nat :=
  let c2_i32_32 : BitVec 32 := 2#32
  let arg0 : BitVec 32 := BitVec.ofNat 32 (i 0).val
  let c512_i32_31 : BitVec 32 := 512#32
  let v70 : BitVec 32 := Scalar.muli arg0 c512_i32_31
  let c0_i32_34 : BitVec 32 := 0#32
  ![2, v70.toNat, 0]
def k0_off18 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_39 : BitVec 32 := 3#32
  ![v9.toNat, 3]
def k0_off19 (i : grid0.Coords) : Fin 3 → Nat :=
  let c3_i32_38 : BitVec 32 := 3#32
  let arg0 : BitVec 32 := BitVec.ofNat 32 (i 0).val
  let c512_i32_37 : BitVec 32 := 512#32
  let v77 : BitVec 32 := Scalar.muli arg0 c512_i32_37
  let c0_i32_40 : BitVec 32 := 0#32
  ![3, v77.toNat, 0]
def k0_cond3 (i : grid0.Coords) : BitVec 1 :=
  let arg0 : BitVec 32 := BitVec.ofNat 32 (i 0).val
  let c15_i32 : BitVec 32 := 15#32
  let v84 : BitVec 1 := Scalar.cmpi .eq arg0 c15_i32
  let v85 : BitVec 32 := Scalar.extui v84
  let c0_i32_43 : BitVec 32 := 0#32
  let v86 : BitVec 1 := Scalar.cmpi .ne v85 c0_i32_43
  v86

def k0_off20 (i : grid0.Coords) (c0_i32_45 : BitVec 32) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_44 : BitVec 32 := 1#32
  let v87 : BitVec 32 := Scalar.addi v9 c1_i32_44
  let v88 : BitVec 32 := Scalar.addi v87 c0_i32_45
  let c3_i32_46 : BitVec 32 := 3#32
  let c0_i32_47 : BitVec 32 := 0#32
  let v89 : BitVec 1 := Scalar.cmpi .eq c3_i32_46 c0_i32_47
  let c1_i32_48 : BitVec 32 := 1#32
  let v90 : BitVec 32 := Scalar.select v89 c1_i32_48 c3_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c0_i32_56 : BitVec 32 := 0#32
  ![v98.toNat, 0]
def k0_off21 (i : grid0.Coords) (c0_i32_53 : BitVec 32) : Fin 3 → Nat :=
  let c0_i32_55 : BitVec 32 := 0#32
  let arg0 : BitVec 32 := BitVec.ofNat 32 (i 0).val
  let c2_i32_52 : BitVec 32 := 2#32
  let v99 : BitVec 32 := Scalar.subi arg0 c2_i32_52
  let v100 : BitVec 32 := Scalar.addi v99 c0_i32_53
  let c512_i32_54 : BitVec 32 := 512#32
  let v101 : BitVec 32 := Scalar.muli v100 c512_i32_54
  let c0_i32_57 : BitVec 32 := 0#32
  ![0, v101.toNat, 0]
def k0_off22 (i : grid0.Coords) (c0_i32_45 : BitVec 32) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_44 : BitVec 32 := 1#32
  let v87 : BitVec 32 := Scalar.addi v9 c1_i32_44
  let v88 : BitVec 32 := Scalar.addi v87 c0_i32_45
  let c3_i32_46 : BitVec 32 := 3#32
  let c0_i32_47 : BitVec 32 := 0#32
  let v89 : BitVec 1 := Scalar.cmpi .eq c3_i32_46 c0_i32_47
  let c1_i32_48 : BitVec 32 := 1#32
  let v90 : BitVec 32 := Scalar.select v89 c1_i32_48 c3_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c0_i32_58 : BitVec 32 := 0#32
  let c0_i32_59 : BitVec 32 := 0#32
  ![v98.toNat, 0, 0]
def k0_off23 (i : grid0.Coords) (c0_i32_45 : BitVec 32) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_44 : BitVec 32 := 1#32
  let v87 : BitVec 32 := Scalar.addi v9 c1_i32_44
  let v88 : BitVec 32 := Scalar.addi v87 c0_i32_45
  let c3_i32_46 : BitVec 32 := 3#32
  let c0_i32_47 : BitVec 32 := 0#32
  let v89 : BitVec 1 := Scalar.cmpi .eq c3_i32_46 c0_i32_47
  let c1_i32_48 : BitVec 32 := 1#32
  let v90 : BitVec 32 := Scalar.select v89 c1_i32_48 c3_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c1_i32_62 : BitVec 32 := 1#32
  ![v98.toNat, 1]
def k0_off24 (i : grid0.Coords) (c0_i32_53 : BitVec 32) : Fin 3 → Nat :=
  let c1_i32_61 : BitVec 32 := 1#32
  let arg0 : BitVec 32 := BitVec.ofNat 32 (i 0).val
  let c2_i32_52 : BitVec 32 := 2#32
  let v99 : BitVec 32 := Scalar.subi arg0 c2_i32_52
  let v100 : BitVec 32 := Scalar.addi v99 c0_i32_53
  let c512_i32_60 : BitVec 32 := 512#32
  let v108 : BitVec 32 := Scalar.muli v100 c512_i32_60
  let c0_i32_63 : BitVec 32 := 0#32
  ![1, v108.toNat, 0]
def k0_off25 (i : grid0.Coords) (c0_i32_45 : BitVec 32) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_44 : BitVec 32 := 1#32
  let v87 : BitVec 32 := Scalar.addi v9 c1_i32_44
  let v88 : BitVec 32 := Scalar.addi v87 c0_i32_45
  let c3_i32_46 : BitVec 32 := 3#32
  let c0_i32_47 : BitVec 32 := 0#32
  let v89 : BitVec 1 := Scalar.cmpi .eq c3_i32_46 c0_i32_47
  let c1_i32_48 : BitVec 32 := 1#32
  let v90 : BitVec 32 := Scalar.select v89 c1_i32_48 c3_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c2_i32_68 : BitVec 32 := 2#32
  ![v98.toNat, 2]
def k0_off26 (i : grid0.Coords) (c0_i32_53 : BitVec 32) : Fin 3 → Nat :=
  let c2_i32_67 : BitVec 32 := 2#32
  let arg0 : BitVec 32 := BitVec.ofNat 32 (i 0).val
  let c2_i32_52 : BitVec 32 := 2#32
  let v99 : BitVec 32 := Scalar.subi arg0 c2_i32_52
  let v100 : BitVec 32 := Scalar.addi v99 c0_i32_53
  let c512_i32_66 : BitVec 32 := 512#32
  let v115 : BitVec 32 := Scalar.muli v100 c512_i32_66
  let c0_i32_69 : BitVec 32 := 0#32
  ![2, v115.toNat, 0]
def k0_off27 (i : grid0.Coords) (c0_i32_45 : BitVec 32) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_44 : BitVec 32 := 1#32
  let v87 : BitVec 32 := Scalar.addi v9 c1_i32_44
  let v88 : BitVec 32 := Scalar.addi v87 c0_i32_45
  let c3_i32_46 : BitVec 32 := 3#32
  let c0_i32_47 : BitVec 32 := 0#32
  let v89 : BitVec 1 := Scalar.cmpi .eq c3_i32_46 c0_i32_47
  let c1_i32_48 : BitVec 32 := 1#32
  let v90 : BitVec 32 := Scalar.select v89 c1_i32_48 c3_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c3_i32_74 : BitVec 32 := 3#32
  ![v98.toNat, 3]
def k0_off28 (i : grid0.Coords) (c0_i32_53 : BitVec 32) : Fin 3 → Nat :=
  let c3_i32_73 : BitVec 32 := 3#32
  let arg0 : BitVec 32 := BitVec.ofNat 32 (i 0).val
  let c2_i32_52 : BitVec 32 := 2#32
  let v99 : BitVec 32 := Scalar.subi arg0 c2_i32_52
  let v100 : BitVec 32 := Scalar.addi v99 c0_i32_53
  let c512_i32_72 : BitVec 32 := 512#32
  let v122 : BitVec 32 := Scalar.muli v100 c512_i32_72
  let c0_i32_75 : BitVec 32 := 0#32
  ![3, v122.toNat, 0]
def k0_off29 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_114 : BitVec 32 := 0#32
  ![v9.toNat, 0]
def k0_off30 (i : grid0.Coords) : Fin 3 → Nat :=
  let c0_i32_113 : BitVec 32 := 0#32
  let arg0 : BitVec 32 := BitVec.ofNat 32 (i 0).val
  let c512_i32_112 : BitVec 32 := 512#32
  let v171 : BitVec 32 := Scalar.muli arg0 c512_i32_112
  let c0_i32_115 : BitVec 32 := 0#32
  ![0, v171.toNat, 0]
def k0_off31 (i : grid0.Coords) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_116 : BitVec 32 := 0#32
  let c0_i32_117 : BitVec 32 := 0#32
  ![v9.toNat, 0, 0]
def k0_off32 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_120 : BitVec 32 := 1#32
  ![v9.toNat, 1]
def k0_off33 (i : grid0.Coords) : Fin 3 → Nat :=
  let c1_i32_119 : BitVec 32 := 1#32
  let arg0 : BitVec 32 := BitVec.ofNat 32 (i 0).val
  let c512_i32_118 : BitVec 32 := 512#32
  let v178 : BitVec 32 := Scalar.muli arg0 c512_i32_118
  let c0_i32_121 : BitVec 32 := 0#32
  ![1, v178.toNat, 0]
def k0_off34 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_126 : BitVec 32 := 2#32
  ![v9.toNat, 2]
def k0_off35 (i : grid0.Coords) : Fin 3 → Nat :=
  let c2_i32_125 : BitVec 32 := 2#32
  let arg0 : BitVec 32 := BitVec.ofNat 32 (i 0).val
  let c512_i32_124 : BitVec 32 := 512#32
  let v185 : BitVec 32 := Scalar.muli arg0 c512_i32_124
  let c0_i32_127 : BitVec 32 := 0#32
  ![2, v185.toNat, 0]
def k0_off36 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_132 : BitVec 32 := 3#32
  ![v9.toNat, 3]
def k0_off37 (i : grid0.Coords) : Fin 3 → Nat :=
  let c3_i32_131 : BitVec 32 := 3#32
  let arg0 : BitVec 32 := BitVec.ofNat 32 (i 0).val
  let c512_i32_130 : BitVec 32 := 512#32
  let v192 : BitVec 32 := Scalar.muli arg0 c512_i32_130
  let c0_i32_133 : BitVec 32 := 0#32
  ![3, v192.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c0_i32 : BitVec 32 := 0#32
  let c0_i32_0 : BitVec 32 := 0#32
  ![v0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x8192 : Shape := ⟨2, ![4, 8192]⟩
abbrev S8192x1024 : Shape := ⟨2, ![8192, 1024]⟩
abbrev S1x8192x1024 : Shape := ⟨3, ![1, 8192, 1024]⟩
abbrev S4x8192x1024 : Shape := ⟨3, ![4, 8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S1x8192x1024, .f32⟩
  | .hbm, ⟨3, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
/-
  The names of the ring through which the kernel writes its result: the three slots of the scratch buffer, the
  64 pieces of the result, the twelve semaphore cells. At grid point `t` the kernel fills slot `t % 3` and starts
  four copies of it, one into each batch's rows `512 t … 512 t + 511`, each counted on a cell of its own.
  Here: those names, that the slots cut the scratch buffer and the pieces cut the result, and that the offsets the
  kernel computes at a grid point are these names.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Slots, pieces, cells -/

/-- The scratch buffer of three slots, whole. -/
abbrev bufM : Memref sig .tc .vmem S3x512x1024 .f32 := Memref.whole cc0_scratch2
/-- The result, whole. -/
abbrev outM : Memref sig .tc .hbm S4x8192x1024 .f32 := Memref.whole main_v0

theorem inb_slot (g : Fin 3) : ∀ a, (![g.val, 0, 0] : Fin 3 → Nat) a + S1x512x1024.size a ≤ S3x512x1024.size a := by
  have := g.isLt; intro a; fin_cases a <;> simp <;> omega
theorem inb_piece (u : Fin 16) (b : Fin 4) :
    ∀ a, (![b.val, 512 * u.val, 0] : Fin 3 → Nat) a + S1x512x1024.size a ≤ S4x8192x1024.size a := by
  have := u.isLt; have := b.isLt; intro a; fin_cases a <;> simp <;> omega
theorem inb_cell (g : Fin 3) (b : Fin 4) : ∀ a, (![g.val, b.val] : Fin 2 → Nat) a + S1x1.size a ≤ S3x4.size a := by
  have := g.isLt; have := b.isLt; intro a; fin_cases a <;> simp <;> omega

/-- Slot `g` of the scratch buffer, a 512 × 1024 tile. -/
def slot (g : Fin 3) : Memref sig .tc .vmem S512x1024 .f32 :=
  (bufM.slice (Rect.unit (s := S3x512x1024) ![g.val, 0, 0] S1x512x1024.size (inb_slot g)) (fun _ => rfl)).squeeze
    S512x1024 squeezes_S1x512x1024_S512x1024
/-- Piece (u, b) of the result: batch `b`'s rows `512 u … 512 u + 511`. -/
def piece (u : Fin 16) (b : Fin 4) : Memref sig .tc .hbm S512x1024 .f32 :=
  (outM.slice (Rect.unit (s := S4x8192x1024) ![b.val, 512 * u.val, 0] S1x512x1024.size (inb_piece u b)) (fun _ => rfl)).squeeze
    S512x1024 squeezes_S1x512x1024_S512x1024
/-- Cell (g, b) of the semaphore array: slot `g`'s copy into batch `b` is counted on it. -/
def cell (g : Fin 3) (b : Fin 4) : DmaSems sig S_ :=
  (cc0_scratch3.slice (Rect.unit (s := S3x4) ![g.val, b.val] S1x1.size (inb_cell g b))).squeeze S_ squeezes_S1x1_S_
/-- The same cell as a semaphore. -/
abbrev cellSem (g : Fin 3) (b : Fin 4) : SemLoc sig := SemLoc.dma (cell g b).sem

/-- The twelve cells, in the order of the semaphore array. -/
abbrev cellList : Fin 12 → SemLoc sig := fun j => (![SemLoc.dma 3, SemLoc.dma 4, SemLoc.dma 5, SemLoc.dma 6, SemLoc.dma 7,
  SemLoc.dma 8, SemLoc.dma 9, SemLoc.dma 10, SemLoc.dma 11, SemLoc.dma 12, SemLoc.dma 13, SemLoc.dma 14] : Fin 12 → SemLoc sig) j
theorem cellSem_eq : ∀ (g : Fin 3) (b : Fin 4), cellSem g b = cellList (finProdFinEquiv (g, b)) := by decide

/-! ## The slots cut the scratch buffer -/

abbrev slotOff (g : Fin 3) : Fin 3 → Nat := ![g.val, 0, 0]
abbrev slotSet (g : Fin 3) : Finset S3x512x1024.Idx := (Rect.unit (s := S3x512x1024) (slotOff g) S1x512x1024.size (inb_slot g)).set
theorem slot_set (g : Fin 3) : (slot g).view.set = slotSet g := by
  simp only [slot, Memref.view_squeeze, View.set_reshape]; exact View.set_slice_whole _ _

/-- Two slots share no element. -/
theorem slots_disjoint (g g' : Fin 3) (h : g ≠ g') : Disjoint (slotSet g) (slotSet g') :=
  Ring.boxes_disjoint (s := S3x512x1024) S1x512x1024.size slotOff inb_slot (fun g => ![g.val, 0, 0])
    (fun i a => by fin_cases a <;> simp [slotOff]) (fun v => Fin.ofNat 3 (v 0)) (by decide +kernel) g g' h

/-! ## The pieces cut the result -/

abbrev pieceOff (i : Fin 16 × Fin 4) : Fin 3 → Nat := ![i.2.val, 512 * i.1.val, 0]
theorem inb_piece' (i : Fin 16 × Fin 4) : ∀ a, pieceOff i a + S1x512x1024.size a ≤ S4x8192x1024.size a := inb_piece i.1 i.2
abbrev pieceSet (i : Fin 16 × Fin 4) : Finset S4x8192x1024.Idx :=
  (Rect.unit (s := S4x8192x1024) (pieceOff i) S1x512x1024.size (inb_piece' i)).set
theorem piece_set (u : Fin 16) (b : Fin 4) : (piece u b).view.set = pieceSet (u, b) := by
  simp only [piece, Memref.view_squeeze, View.set_reshape]; exact View.set_slice_whole _ _

/-- Two pieces share no element. -/
theorem pieces_disjoint (i i' : Fin 16 × Fin 4) (h : i ≠ i') : Disjoint (pieceSet i) (pieceSet i') :=
  Ring.boxes_disjoint (s := S4x8192x1024) S1x512x1024.size pieceOff inb_piece' (fun i => ![i.2.val, i.1.val, 0])
    (fun i a => by fin_cases a <;> simp [pieceOff] <;> omega) (fun v => (Fin.ofNat 16 (v 1), Fin.ofNat 4 (v 0)))
    (by decide +kernel) i i' h

/-! ## The kernel's conditions -/

/-- The tables are built at the first point only. -/
abbrev isFirst (i : grid0.Coords) : Prop :=
  Scalar.cmpi .ne (Scalar.extui (Scalar.cmpi .eq (BitVec.ofNat 32 (i 0).val) 0#32) : BitVec 32) 0#32 = 1#1
theorem first_iff : ∀ t : Fin grid0.N, isFirst (grid0.coords t) ↔ t.val = 0 := by decide +kernel
/-- A slot's copies are waited for from point 3 on. -/
theorem wait_iff : ∀ t : Fin grid0.N, k0_cond2 (grid0.coords t) = 1#1 ↔ 3 ≤ t.val := by decide +kernel
/-- Everything in flight is drained at the last point. -/
theorem last_iff : ∀ t : Fin grid0.N, k0_cond3 (grid0.coords t) = 1#1 ↔ t.val = 15 := by decide +kernel

/-! ## The offsets the kernel computes at point `t`

  The waits of point `t - 3`'s copies (from point 3 on); the store and the four copies of point `t`; and, at the
  last point, the waits of the copies of points 13 and 14 and of its own. -/

section Offsets
set_option synthInstance.maxSize 4096

theorem off3_eq : ∀ t : Fin grid0.N, k0_off3 (grid0.coords t) = ![(Ring.sl 3 t.val).val, 0, 0] := by decide +kernel
theorem off1_eq : ∀ t : Fin grid0.N, k0_off1 (grid0.coords t) = ![(Ring.sl 3 t.val).val, (0 : Fin 4).val] := by decide +kernel
theorem off2_eq : ∀ t : Fin grid0.N, 3 ≤ t.val → k0_off2 (grid0.coords t) = ![(0 : Fin 4).val, 512 * (Ring.bk 16 (t.val - 3)).val, 0] := by decide +kernel
theorem off4_eq : ∀ t : Fin grid0.N, k0_off4 (grid0.coords t) = ![(Ring.sl 3 t.val).val, (1 : Fin 4).val] := by decide +kernel
theorem off5_eq : ∀ t : Fin grid0.N, 3 ≤ t.val → k0_off5 (grid0.coords t) = ![(1 : Fin 4).val, 512 * (Ring.bk 16 (t.val - 3)).val, 0] := by decide +kernel
theorem off6_eq : ∀ t : Fin grid0.N, k0_off6 (grid0.coords t) = ![(Ring.sl 3 t.val).val, (2 : Fin 4).val] := by decide +kernel
theorem off7_eq : ∀ t : Fin grid0.N, 3 ≤ t.val → k0_off7 (grid0.coords t) = ![(2 : Fin 4).val, 512 * (Ring.bk 16 (t.val - 3)).val, 0] := by decide +kernel
theorem off8_eq : ∀ t : Fin grid0.N, k0_off8 (grid0.coords t) = ![(Ring.sl 3 t.val).val, (3 : Fin 4).val] := by decide +kernel
theorem off9_eq : ∀ t : Fin grid0.N, 3 ≤ t.val → k0_off9 (grid0.coords t) = ![(3 : Fin 4).val, 512 * (Ring.bk 16 (t.val - 3)).val, 0] := by decide +kernel
theorem off10_eq : ∀ t : Fin grid0.N, k0_off10 (grid0.coords t) = ![(Ring.sl 3 t.val).val, 0, 0] := by decide +kernel
theorem off13_eq : ∀ t : Fin grid0.N, k0_off13 (grid0.coords t) = ![(Ring.sl 3 t.val).val, 0, 0] := by decide +kernel
theorem off11_eq : ∀ t : Fin grid0.N, k0_off11 (grid0.coords t) = ![(Ring.sl 3 t.val).val, (0 : Fin 4).val] := by decide +kernel
theorem off12_eq : ∀ t : Fin grid0.N, k0_off12 (grid0.coords t) = ![(0 : Fin 4).val, 512 * (Ring.bk 16 t.val).val, 0] := by decide +kernel
theorem off14_eq : ∀ t : Fin grid0.N, k0_off14 (grid0.coords t) = ![(Ring.sl 3 t.val).val, (1 : Fin 4).val] := by decide +kernel
theorem off15_eq : ∀ t : Fin grid0.N, k0_off15 (grid0.coords t) = ![(1 : Fin 4).val, 512 * (Ring.bk 16 t.val).val, 0] := by decide +kernel
theorem off16_eq : ∀ t : Fin grid0.N, k0_off16 (grid0.coords t) = ![(Ring.sl 3 t.val).val, (2 : Fin 4).val] := by decide +kernel
theorem off17_eq : ∀ t : Fin grid0.N, k0_off17 (grid0.coords t) = ![(2 : Fin 4).val, 512 * (Ring.bk 16 t.val).val, 0] := by decide +kernel
theorem off18_eq : ∀ t : Fin grid0.N, k0_off18 (grid0.coords t) = ![(Ring.sl 3 t.val).val, (3 : Fin 4).val] := by decide +kernel
theorem off19_eq : ∀ t : Fin grid0.N, k0_off19 (grid0.coords t) = ![(3 : Fin 4).val, 512 * (Ring.bk 16 t.val).val, 0] := by decide +kernel
theorem off22_0_eq : ∀ t : Fin grid0.N, k0_off22 (grid0.coords t) 0#32 = ![(Ring.sl 3 (t.val + 1)).val, 0, 0] := by decide +kernel
theorem off20_0_eq : ∀ t : Fin grid0.N, k0_off20 (grid0.coords t) 0#32 = ![(Ring.sl 3 (t.val + 1)).val, (0 : Fin 4).val] := by decide +kernel
theorem off21_0_eq : ∀ t : Fin grid0.N, t.val = 15 → k0_off21 (grid0.coords t) 0#32 = ![(0 : Fin 4).val, 512 * (Ring.bk 16 (t.val - 2)).val, 0] := by decide +kernel
theorem off23_0_eq : ∀ t : Fin grid0.N, k0_off23 (grid0.coords t) 0#32 = ![(Ring.sl 3 (t.val + 1)).val, (1 : Fin 4).val] := by decide +kernel
theorem off24_0_eq : ∀ t : Fin grid0.N, t.val = 15 → k0_off24 (grid0.coords t) 0#32 = ![(1 : Fin 4).val, 512 * (Ring.bk 16 (t.val - 2)).val, 0] := by decide +kernel
theorem off25_0_eq : ∀ t : Fin grid0.N, k0_off25 (grid0.coords t) 0#32 = ![(Ring.sl 3 (t.val + 1)).val, (2 : Fin 4).val] := by decide +kernel
theorem off26_0_eq : ∀ t : Fin grid0.N, t.val = 15 → k0_off26 (grid0.coords t) 0#32 = ![(2 : Fin 4).val, 512 * (Ring.bk 16 (t.val - 2)).val, 0] := by decide +kernel
theorem off27_0_eq : ∀ t : Fin grid0.N, k0_off27 (grid0.coords t) 0#32 = ![(Ring.sl 3 (t.val + 1)).val, (3 : Fin 4).val] := by decide +kernel
theorem off28_0_eq : ∀ t : Fin grid0.N, t.val = 15 → k0_off28 (grid0.coords t) 0#32 = ![(3 : Fin 4).val, 512 * (Ring.bk 16 (t.val - 2)).val, 0] := by decide +kernel
theorem off22_1_eq : ∀ t : Fin grid0.N, k0_off22 (grid0.coords t) 1#32 = ![(Ring.sl 3 (t.val + 2)).val, 0, 0] := by decide +kernel
theorem off20_1_eq : ∀ t : Fin grid0.N, k0_off20 (grid0.coords t) 1#32 = ![(Ring.sl 3 (t.val + 2)).val, (0 : Fin 4).val] := by decide +kernel
theorem off21_1_eq : ∀ t : Fin grid0.N, t.val = 15 → k0_off21 (grid0.coords t) 1#32 = ![(0 : Fin 4).val, 512 * (Ring.bk 16 (t.val - 1)).val, 0] := by decide +kernel
theorem off23_1_eq : ∀ t : Fin grid0.N, k0_off23 (grid0.coords t) 1#32 = ![(Ring.sl 3 (t.val + 2)).val, (1 : Fin 4).val] := by decide +kernel
theorem off24_1_eq : ∀ t : Fin grid0.N, t.val = 15 → k0_off24 (grid0.coords t) 1#32 = ![(1 : Fin 4).val, 512 * (Ring.bk 16 (t.val - 1)).val, 0] := by decide +kernel
theorem off25_1_eq : ∀ t : Fin grid0.N, k0_off25 (grid0.coords t) 1#32 = ![(Ring.sl 3 (t.val + 2)).val, (2 : Fin 4).val] := by decide +kernel
theorem off26_1_eq : ∀ t : Fin grid0.N, t.val = 15 → k0_off26 (grid0.coords t) 1#32 = ![(2 : Fin 4).val, 512 * (Ring.bk 16 (t.val - 1)).val, 0] := by decide +kernel
theorem off27_1_eq : ∀ t : Fin grid0.N, k0_off27 (grid0.coords t) 1#32 = ![(Ring.sl 3 (t.val + 2)).val, (3 : Fin 4).val] := by decide +kernel
theorem off28_1_eq : ∀ t : Fin grid0.N, t.val = 15 → k0_off28 (grid0.coords t) 1#32 = ![(3 : Fin 4).val, 512 * (Ring.bk 16 (t.val - 1)).val, 0] := by decide +kernel
theorem off31_eq : ∀ t : Fin grid0.N, k0_off31 (grid0.coords t) = ![(Ring.sl 3 t.val).val, 0, 0] := by decide +kernel
theorem off29_eq : ∀ t : Fin grid0.N, k0_off29 (grid0.coords t) = ![(Ring.sl 3 t.val).val, (0 : Fin 4).val] := by decide +kernel
theorem off30_eq : ∀ t : Fin grid0.N, k0_off30 (grid0.coords t) = ![(0 : Fin 4).val, 512 * (Ring.bk 16 t.val).val, 0] := by decide +kernel
theorem off32_eq : ∀ t : Fin grid0.N, k0_off32 (grid0.coords t) = ![(Ring.sl 3 t.val).val, (1 : Fin 4).val] := by decide +kernel
theorem off33_eq : ∀ t : Fin grid0.N, k0_off33 (grid0.coords t) = ![(1 : Fin 4).val, 512 * (Ring.bk 16 t.val).val, 0] := by decide +kernel
theorem off34_eq : ∀ t : Fin grid0.N, k0_off34 (grid0.coords t) = ![(Ring.sl 3 t.val).val, (2 : Fin 4).val] := by decide +kernel
theorem off35_eq : ∀ t : Fin grid0.N, k0_off35 (grid0.coords t) = ![(2 : Fin 4).val, 512 * (Ring.bk 16 t.val).val, 0] := by decide +kernel
theorem off36_eq : ∀ t : Fin grid0.N, k0_off36 (grid0.coords t) = ![(Ring.sl 3 t.val).val, (3 : Fin 4).val] := by decide +kernel
theorem off37_eq : ∀ t : Fin grid0.N, k0_off37 (grid0.coords t) = ![(3 : Fin 4).val, 512 * (Ring.bk 16 t.val).val, 0] := by decide +kernel
end Offsets

/-! ## The kernel's own spelling of a slot, a piece and a cell

  The kernel takes each as a unit box at offsets it computes, its unit axes dropped; the box's extents appear under
  the shape's name and, in a body whose parts are unfolded, as a literal. -/

abbrev slotBox (off : Fin 3 → Nat) (h : ∀ a, off a + S1x512x1024.size a ≤ S3x512x1024.size a) : Memref sig .tc .vmem S512x1024 .f32 :=
  (bufM.slice (Rect.unit (s := S3x512x1024) off S1x512x1024.size h) (fun _ => rfl)).squeeze S512x1024 squeezes_S1x512x1024_S512x1024
abbrev slotBox' (off : Fin 3 → Nat) (h : ∀ a, off a + S1x512x1024.size a ≤ S3x512x1024.size a) : Memref sig .tc .vmem S512x1024 .f32 :=
  (bufM.slice (Rect.unit (s := S3x512x1024) off ![1, 512, 1024] h) (fun _ => rfl)).squeeze S512x1024 squeezes_S1x512x1024_S512x1024
abbrev pieceBox (off : Fin 3 → Nat) (h : ∀ a, off a + S1x512x1024.size a ≤ S4x8192x1024.size a) : Memref sig .tc .hbm S512x1024 .f32 :=
  (outM.slice (Rect.unit (s := S4x8192x1024) off S1x512x1024.size h) (fun _ => rfl)).squeeze S512x1024 squeezes_S1x512x1024_S512x1024
abbrev pieceBox' (off : Fin 3 → Nat) (h : ∀ a, off a + S1x512x1024.size a ≤ S4x8192x1024.size a) : Memref sig .tc .hbm S512x1024 .f32 :=
  (outM.slice (Rect.unit (s := S4x8192x1024) off ![1, 512, 1024] h) (fun _ => rfl)).squeeze S512x1024 squeezes_S1x512x1024_S512x1024
abbrev cellBox (off : Fin 2 → Nat) (h : ∀ a, off a + S1x1.size a ≤ S3x4.size a) : DmaSems sig S_ :=
  (cc0_scratch3.slice (Rect.unit (s := S3x4) off S1x1.size h)).squeeze S_ squeezes_S1x1_S_
abbrev cellBox' (off : Fin 2 → Nat) (h : ∀ a, off a + S1x1.size a ≤ S3x4.size a) : DmaSems sig S_ :=
  (cc0_scratch3.slice (Rect.unit (s := S3x4) off ![1, 1] h)).squeeze S_ squeezes_S1x1_S_

theorem slot_box {g : Fin 3} {off : Fin 3 → Nat} (e : off = ![g.val, 0, 0]) (h) : slotBox off h = slot g := by subst e; rfl
theorem piece_box {u : Fin 16} {b : Fin 4} {off : Fin 3 → Nat} (e : off = ![b.val, 512 * u.val, 0]) (h) :
    pieceBox off h = piece u b := by subst e; rfl
theorem cell_box {g : Fin 3} {b : Fin 4} {off : Fin 2 → Nat} (e : off = ![g.val, b.val]) (h) : cellBox off h = cell g b := by
  subst e; rfl

@[sl_canon] theorem slot3 (t : Fin grid0.N) (h) : slotBox (k0_off3 (grid0.coords t)) h = slot (Ring.sl 3 t.val) := slot_box (off3_eq t) h
@[sl_canon] theorem slot3' (t : Fin grid0.N) (h) : slotBox' (k0_off3 (grid0.coords t)) h = slot (Ring.sl 3 t.val) := slot3 t h
@[sl_canon] theorem cell1 (t : Fin grid0.N) (h) : cellBox (k0_off1 (grid0.coords t)) h = cell (Ring.sl 3 t.val) 0 := cell_box (off1_eq t) h
@[sl_canon] theorem cell1' (t : Fin grid0.N) (h) : cellBox' (k0_off1 (grid0.coords t)) h = cell (Ring.sl 3 t.val) 0 := cell1 t h
@[sl_canon] theorem piece2 (t : Fin grid0.N) (hp : 3 ≤ t.val) (h) : pieceBox (k0_off2 (grid0.coords t)) h = piece (Ring.bk 16 (t.val - 3)) 0 := piece_box (off2_eq t hp) h
@[sl_canon] theorem piece2' (t : Fin grid0.N) (hp : 3 ≤ t.val) (h) : pieceBox' (k0_off2 (grid0.coords t)) h = piece (Ring.bk 16 (t.val - 3)) 0 := piece2 t hp h
@[sl_canon] theorem cell4 (t : Fin grid0.N) (h) : cellBox (k0_off4 (grid0.coords t)) h = cell (Ring.sl 3 t.val) 1 := cell_box (off4_eq t) h
@[sl_canon] theorem cell4' (t : Fin grid0.N) (h) : cellBox' (k0_off4 (grid0.coords t)) h = cell (Ring.sl 3 t.val) 1 := cell4 t h
@[sl_canon] theorem piece5 (t : Fin grid0.N) (hp : 3 ≤ t.val) (h) : pieceBox (k0_off5 (grid0.coords t)) h = piece (Ring.bk 16 (t.val - 3)) 1 := piece_box (off5_eq t hp) h
@[sl_canon] theorem piece5' (t : Fin grid0.N) (hp : 3 ≤ t.val) (h) : pieceBox' (k0_off5 (grid0.coords t)) h = piece (Ring.bk 16 (t.val - 3)) 1 := piece5 t hp h
@[sl_canon] theorem cell6 (t : Fin grid0.N) (h) : cellBox (k0_off6 (grid0.coords t)) h = cell (Ring.sl 3 t.val) 2 := cell_box (off6_eq t) h
@[sl_canon] theorem cell6' (t : Fin grid0.N) (h) : cellBox' (k0_off6 (grid0.coords t)) h = cell (Ring.sl 3 t.val) 2 := cell6 t h
@[sl_canon] theorem piece7 (t : Fin grid0.N) (hp : 3 ≤ t.val) (h) : pieceBox (k0_off7 (grid0.coords t)) h = piece (Ring.bk 16 (t.val - 3)) 2 := piece_box (off7_eq t hp) h
@[sl_canon] theorem piece7' (t : Fin grid0.N) (hp : 3 ≤ t.val) (h) : pieceBox' (k0_off7 (grid0.coords t)) h = piece (Ring.bk 16 (t.val - 3)) 2 := piece7 t hp h
@[sl_canon] theorem cell8 (t : Fin grid0.N) (h) : cellBox (k0_off8 (grid0.coords t)) h = cell (Ring.sl 3 t.val) 3 := cell_box (off8_eq t) h
@[sl_canon] theorem cell8' (t : Fin grid0.N) (h) : cellBox' (k0_off8 (grid0.coords t)) h = cell (Ring.sl 3 t.val) 3 := cell8 t h
@[sl_canon] theorem piece9 (t : Fin grid0.N) (hp : 3 ≤ t.val) (h) : pieceBox (k0_off9 (grid0.coords t)) h = piece (Ring.bk 16 (t.val - 3)) 3 := piece_box (off9_eq t hp) h
@[sl_canon] theorem piece9' (t : Fin grid0.N) (hp : 3 ≤ t.val) (h) : pieceBox' (k0_off9 (grid0.coords t)) h = piece (Ring.bk 16 (t.val - 3)) 3 := piece9 t hp h
@[sl_canon] theorem slot13 (t : Fin grid0.N) (h) : slotBox (k0_off13 (grid0.coords t)) h = slot (Ring.sl 3 t.val) := slot_box (off13_eq t) h
@[sl_canon] theorem slot13' (t : Fin grid0.N) (h) : slotBox' (k0_off13 (grid0.coords t)) h = slot (Ring.sl 3 t.val) := slot13 t h
@[sl_canon] theorem cell11 (t : Fin grid0.N) (h) : cellBox (k0_off11 (grid0.coords t)) h = cell (Ring.sl 3 t.val) 0 := cell_box (off11_eq t) h
@[sl_canon] theorem cell11' (t : Fin grid0.N) (h) : cellBox' (k0_off11 (grid0.coords t)) h = cell (Ring.sl 3 t.val) 0 := cell11 t h
@[sl_canon] theorem piece12 (t : Fin grid0.N) (h) : pieceBox (k0_off12 (grid0.coords t)) h = piece (Ring.bk 16 t.val) 0 := piece_box (off12_eq t) h
@[sl_canon] theorem piece12' (t : Fin grid0.N) (h) : pieceBox' (k0_off12 (grid0.coords t)) h = piece (Ring.bk 16 t.val) 0 := piece12 t h
@[sl_canon] theorem cell14 (t : Fin grid0.N) (h) : cellBox (k0_off14 (grid0.coords t)) h = cell (Ring.sl 3 t.val) 1 := cell_box (off14_eq t) h
@[sl_canon] theorem cell14' (t : Fin grid0.N) (h) : cellBox' (k0_off14 (grid0.coords t)) h = cell (Ring.sl 3 t.val) 1 := cell14 t h
@[sl_canon] theorem piece15 (t : Fin grid0.N) (h) : pieceBox (k0_off15 (grid0.coords t)) h = piece (Ring.bk 16 t.val) 1 := piece_box (off15_eq t) h
@[sl_canon] theorem piece15' (t : Fin grid0.N) (h) : pieceBox' (k0_off15 (grid0.coords t)) h = piece (Ring.bk 16 t.val) 1 := piece15 t h
@[sl_canon] theorem cell16 (t : Fin grid0.N) (h) : cellBox (k0_off16 (grid0.coords t)) h = cell (Ring.sl 3 t.val) 2 := cell_box (off16_eq t) h
@[sl_canon] theorem cell16' (t : Fin grid0.N) (h) : cellBox' (k0_off16 (grid0.coords t)) h = cell (Ring.sl 3 t.val) 2 := cell16 t h
@[sl_canon] theorem piece17 (t : Fin grid0.N) (h) : pieceBox (k0_off17 (grid0.coords t)) h = piece (Ring.bk 16 t.val) 2 := piece_box (off17_eq t) h
@[sl_canon] theorem piece17' (t : Fin grid0.N) (h) : pieceBox' (k0_off17 (grid0.coords t)) h = piece (Ring.bk 16 t.val) 2 := piece17 t h
@[sl_canon] theorem cell18 (t : Fin grid0.N) (h) : cellBox (k0_off18 (grid0.coords t)) h = cell (Ring.sl 3 t.val) 3 := cell_box (off18_eq t) h
@[sl_canon] theorem cell18' (t : Fin grid0.N) (h) : cellBox' (k0_off18 (grid0.coords t)) h = cell (Ring.sl 3 t.val) 3 := cell18 t h
@[sl_canon] theorem piece19 (t : Fin grid0.N) (h) : pieceBox (k0_off19 (grid0.coords t)) h = piece (Ring.bk 16 t.val) 3 := piece_box (off19_eq t) h
@[sl_canon] theorem piece19' (t : Fin grid0.N) (h) : pieceBox' (k0_off19 (grid0.coords t)) h = piece (Ring.bk 16 t.val) 3 := piece19 t h
@[sl_canon] theorem slot22_0 (t : Fin grid0.N) (h) : slotBox (k0_off22 (grid0.coords t) 0#32) h = slot (Ring.sl 3 (t.val + 1)) := slot_box (off22_0_eq t) h
@[sl_canon] theorem slot22_0' (t : Fin grid0.N) (h) : slotBox' (k0_off22 (grid0.coords t) 0#32) h = slot (Ring.sl 3 (t.val + 1)) := slot22_0 t h
@[sl_canon] theorem cell20_0 (t : Fin grid0.N) (h) : cellBox (k0_off20 (grid0.coords t) 0#32) h = cell (Ring.sl 3 (t.val + 1)) 0 := cell_box (off20_0_eq t) h
@[sl_canon] theorem cell20_0' (t : Fin grid0.N) (h) : cellBox' (k0_off20 (grid0.coords t) 0#32) h = cell (Ring.sl 3 (t.val + 1)) 0 := cell20_0 t h
@[sl_canon] theorem piece21_0 (t : Fin grid0.N) (hp : t.val = 15) (h) : pieceBox (k0_off21 (grid0.coords t) 0#32) h = piece (Ring.bk 16 (t.val - 2)) 0 := piece_box (off21_0_eq t hp) h
@[sl_canon] theorem piece21_0' (t : Fin grid0.N) (hp : t.val = 15) (h) : pieceBox' (k0_off21 (grid0.coords t) 0#32) h = piece (Ring.bk 16 (t.val - 2)) 0 := piece21_0 t hp h
@[sl_canon] theorem cell23_0 (t : Fin grid0.N) (h) : cellBox (k0_off23 (grid0.coords t) 0#32) h = cell (Ring.sl 3 (t.val + 1)) 1 := cell_box (off23_0_eq t) h
@[sl_canon] theorem cell23_0' (t : Fin grid0.N) (h) : cellBox' (k0_off23 (grid0.coords t) 0#32) h = cell (Ring.sl 3 (t.val + 1)) 1 := cell23_0 t h
@[sl_canon] theorem piece24_0 (t : Fin grid0.N) (hp : t.val = 15) (h) : pieceBox (k0_off24 (grid0.coords t) 0#32) h = piece (Ring.bk 16 (t.val - 2)) 1 := piece_box (off24_0_eq t hp) h
@[sl_canon] theorem piece24_0' (t : Fin grid0.N) (hp : t.val = 15) (h) : pieceBox' (k0_off24 (grid0.coords t) 0#32) h = piece (Ring.bk 16 (t.val - 2)) 1 := piece24_0 t hp h
@[sl_canon] theorem cell25_0 (t : Fin grid0.N) (h) : cellBox (k0_off25 (grid0.coords t) 0#32) h = cell (Ring.sl 3 (t.val + 1)) 2 := cell_box (off25_0_eq t) h
@[sl_canon] theorem cell25_0' (t : Fin grid0.N) (h) : cellBox' (k0_off25 (grid0.coords t) 0#32) h = cell (Ring.sl 3 (t.val + 1)) 2 := cell25_0 t h
@[sl_canon] theorem piece26_0 (t : Fin grid0.N) (hp : t.val = 15) (h) : pieceBox (k0_off26 (grid0.coords t) 0#32) h = piece (Ring.bk 16 (t.val - 2)) 2 := piece_box (off26_0_eq t hp) h
@[sl_canon] theorem piece26_0' (t : Fin grid0.N) (hp : t.val = 15) (h) : pieceBox' (k0_off26 (grid0.coords t) 0#32) h = piece (Ring.bk 16 (t.val - 2)) 2 := piece26_0 t hp h
@[sl_canon] theorem cell27_0 (t : Fin grid0.N) (h) : cellBox (k0_off27 (grid0.coords t) 0#32) h = cell (Ring.sl 3 (t.val + 1)) 3 := cell_box (off27_0_eq t) h
@[sl_canon] theorem cell27_0' (t : Fin grid0.N) (h) : cellBox' (k0_off27 (grid0.coords t) 0#32) h = cell (Ring.sl 3 (t.val + 1)) 3 := cell27_0 t h
@[sl_canon] theorem piece28_0 (t : Fin grid0.N) (hp : t.val = 15) (h) : pieceBox (k0_off28 (grid0.coords t) 0#32) h = piece (Ring.bk 16 (t.val - 2)) 3 := piece_box (off28_0_eq t hp) h
@[sl_canon] theorem piece28_0' (t : Fin grid0.N) (hp : t.val = 15) (h) : pieceBox' (k0_off28 (grid0.coords t) 0#32) h = piece (Ring.bk 16 (t.val - 2)) 3 := piece28_0 t hp h
@[sl_canon] theorem slot22_1 (t : Fin grid0.N) (h) : slotBox (k0_off22 (grid0.coords t) 1#32) h = slot (Ring.sl 3 (t.val + 2)) := slot_box (off22_1_eq t) h
@[sl_canon] theorem slot22_1' (t : Fin grid0.N) (h) : slotBox' (k0_off22 (grid0.coords t) 1#32) h = slot (Ring.sl 3 (t.val + 2)) := slot22_1 t h
@[sl_canon] theorem cell20_1 (t : Fin grid0.N) (h) : cellBox (k0_off20 (grid0.coords t) 1#32) h = cell (Ring.sl 3 (t.val + 2)) 0 := cell_box (off20_1_eq t) h
@[sl_canon] theorem cell20_1' (t : Fin grid0.N) (h) : cellBox' (k0_off20 (grid0.coords t) 1#32) h = cell (Ring.sl 3 (t.val + 2)) 0 := cell20_1 t h
@[sl_canon] theorem piece21_1 (t : Fin grid0.N) (hp : t.val = 15) (h) : pieceBox (k0_off21 (grid0.coords t) 1#32) h = piece (Ring.bk 16 (t.val - 1)) 0 := piece_box (off21_1_eq t hp) h
@[sl_canon] theorem piece21_1' (t : Fin grid0.N) (hp : t.val = 15) (h) : pieceBox' (k0_off21 (grid0.coords t) 1#32) h = piece (Ring.bk 16 (t.val - 1)) 0 := piece21_1 t hp h
@[sl_canon] theorem cell23_1 (t : Fin grid0.N) (h) : cellBox (k0_off23 (grid0.coords t) 1#32) h = cell (Ring.sl 3 (t.val + 2)) 1 := cell_box (off23_1_eq t) h
@[sl_canon] theorem cell23_1' (t : Fin grid0.N) (h) : cellBox' (k0_off23 (grid0.coords t) 1#32) h = cell (Ring.sl 3 (t.val + 2)) 1 := cell23_1 t h
@[sl_canon] theorem piece24_1 (t : Fin grid0.N) (hp : t.val = 15) (h) : pieceBox (k0_off24 (grid0.coords t) 1#32) h = piece (Ring.bk 16 (t.val - 1)) 1 := piece_box (off24_1_eq t hp) h
@[sl_canon] theorem piece24_1' (t : Fin grid0.N) (hp : t.val = 15) (h) : pieceBox' (k0_off24 (grid0.coords t) 1#32) h = piece (Ring.bk 16 (t.val - 1)) 1 := piece24_1 t hp h
@[sl_canon] theorem cell25_1 (t : Fin grid0.N) (h) : cellBox (k0_off25 (grid0.coords t) 1#32) h = cell (Ring.sl 3 (t.val + 2)) 2 := cell_box (off25_1_eq t) h
@[sl_canon] theorem cell25_1' (t : Fin grid0.N) (h) : cellBox' (k0_off25 (grid0.coords t) 1#32) h = cell (Ring.sl 3 (t.val + 2)) 2 := cell25_1 t h
@[sl_canon] theorem piece26_1 (t : Fin grid0.N) (hp : t.val = 15) (h) : pieceBox (k0_off26 (grid0.coords t) 1#32) h = piece (Ring.bk 16 (t.val - 1)) 2 := piece_box (off26_1_eq t hp) h
@[sl_canon] theorem piece26_1' (t : Fin grid0.N) (hp : t.val = 15) (h) : pieceBox' (k0_off26 (grid0.coords t) 1#32) h = piece (Ring.bk 16 (t.val - 1)) 2 := piece26_1 t hp h
@[sl_canon] theorem cell27_1 (t : Fin grid0.N) (h) : cellBox (k0_off27 (grid0.coords t) 1#32) h = cell (Ring.sl 3 (t.val + 2)) 3 := cell_box (off27_1_eq t) h
@[sl_canon] theorem cell27_1' (t : Fin grid0.N) (h) : cellBox' (k0_off27 (grid0.coords t) 1#32) h = cell (Ring.sl 3 (t.val + 2)) 3 := cell27_1 t h
@[sl_canon] theorem piece28_1 (t : Fin grid0.N) (hp : t.val = 15) (h) : pieceBox (k0_off28 (grid0.coords t) 1#32) h = piece (Ring.bk 16 (t.val - 1)) 3 := piece_box (off28_1_eq t hp) h
@[sl_canon] theorem piece28_1' (t : Fin grid0.N) (hp : t.val = 15) (h) : pieceBox' (k0_off28 (grid0.coords t) 1#32) h = piece (Ring.bk 16 (t.val - 1)) 3 := piece28_1 t hp h
@[sl_canon] theorem slot31 (t : Fin grid0.N) (h) : slotBox (k0_off31 (grid0.coords t)) h = slot (Ring.sl 3 t.val) := slot_box (off31_eq t) h
@[sl_canon] theorem slot31' (t : Fin grid0.N) (h) : slotBox' (k0_off31 (grid0.coords t)) h = slot (Ring.sl 3 t.val) := slot31 t h
@[sl_canon] theorem cell29 (t : Fin grid0.N) (h) : cellBox (k0_off29 (grid0.coords t)) h = cell (Ring.sl 3 t.val) 0 := cell_box (off29_eq t) h
@[sl_canon] theorem cell29' (t : Fin grid0.N) (h) : cellBox' (k0_off29 (grid0.coords t)) h = cell (Ring.sl 3 t.val) 0 := cell29 t h
@[sl_canon] theorem piece30 (t : Fin grid0.N) (h) : pieceBox (k0_off30 (grid0.coords t)) h = piece (Ring.bk 16 t.val) 0 := piece_box (off30_eq t) h
@[sl_canon] theorem piece30' (t : Fin grid0.N) (h) : pieceBox' (k0_off30 (grid0.coords t)) h = piece (Ring.bk 16 t.val) 0 := piece30 t h
@[sl_canon] theorem cell32 (t : Fin grid0.N) (h) : cellBox (k0_off32 (grid0.coords t)) h = cell (Ring.sl 3 t.val) 1 := cell_box (off32_eq t) h
@[sl_canon] theorem cell32' (t : Fin grid0.N) (h) : cellBox' (k0_off32 (grid0.coords t)) h = cell (Ring.sl 3 t.val) 1 := cell32 t h
@[sl_canon] theorem piece33 (t : Fin grid0.N) (h) : pieceBox (k0_off33 (grid0.coords t)) h = piece (Ring.bk 16 t.val) 1 := piece_box (off33_eq t) h
@[sl_canon] theorem piece33' (t : Fin grid0.N) (h) : pieceBox' (k0_off33 (grid0.coords t)) h = piece (Ring.bk 16 t.val) 1 := piece33 t h
@[sl_canon] theorem cell34 (t : Fin grid0.N) (h) : cellBox (k0_off34 (grid0.coords t)) h = cell (Ring.sl 3 t.val) 2 := cell_box (off34_eq t) h
@[sl_canon] theorem cell34' (t : Fin grid0.N) (h) : cellBox' (k0_off34 (grid0.coords t)) h = cell (Ring.sl 3 t.val) 2 := cell34 t h
@[sl_canon] theorem piece35 (t : Fin grid0.N) (h) : pieceBox (k0_off35 (grid0.coords t)) h = piece (Ring.bk 16 t.val) 2 := piece_box (off35_eq t) h
@[sl_canon] theorem piece35' (t : Fin grid0.N) (h) : pieceBox' (k0_off35 (grid0.coords t)) h = piece (Ring.bk 16 t.val) 2 := piece35 t h
@[sl_canon] theorem cell36 (t : Fin grid0.N) (h) : cellBox (k0_off36 (grid0.coords t)) h = cell (Ring.sl 3 t.val) 3 := cell_box (off36_eq t) h
@[sl_canon] theorem cell36' (t : Fin grid0.N) (h) : cellBox' (k0_off36 (grid0.coords t)) h = cell (Ring.sl 3 t.val) 3 := cell36 t h
@[sl_canon] theorem piece37 (t : Fin grid0.N) (h) : pieceBox (k0_off37 (grid0.coords t)) h = piece (Ring.bk 16 t.val) 3 := piece_box (off37_eq t) h
@[sl_canon] theorem piece37' (t : Fin grid0.N) (h) : pieceBox' (k0_off37 (grid0.coords t)) h = piece (Ring.bk 16 t.val) 3 := piece37 t h

/-- The store's box, in the slot's own spelling. -/
instance (priority := high) closedOff10 (t : Fin grid0.N) : ClosedOff (k0_off10 (grid0.coords t)) := ⟨![(Ring.sl 3 t.val).val, 0, 0], off10_eq t⟩

end Cert.Table

end
-- ==== Proof.Tile.lean ====
/-
  What the ring is made of: a slot held at a share, a piece of the result, a cell at zero, a copy in flight; the tile a
  grid point stores; and how a slot is lent to its four copies.
-/
module

public import proofs.«01_k».proof.Proof.Ring

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A 512 × 1024 tile of values. -/
abbrev Tile (F : FTy → Type) : Type := Vec F S512x1024 .f32

/-- The four equal shares of a slot, one lent to each of the four copies out of it. -/
def quarter : Fin 4 → PosShare TreeShare :=
  ![fullShare.left.left, fullShare.left.right, fullShare.right.left, fullShare.right.right]

/-- Memref `M`'s buffer on core `c`, held whole at `f`. -/
abbrev wholeAt (c : Dev nD) {sp : Space} {s : Shape} {e : EltTy} (M : Memref sig .tc sp s e) (f : Buf (Elt F) (M.view.loc (c : Thread nD τ))) : sProp 𝕄 :=
  M.view.loc (c : Thread nD τ) ↦{fullShare} f

/-- The row a point's block is turned by: the block's first. -/
def rowOf (y : Vec F S8x1024 .f32) : Vec F S1x1024 .f32 :=
  fun i => y ((Rect.unit (s := S8x1024) ![0, 0] S1x1024.size inb_S8x1024_S1x1024_0_0).toLoadRect.idx i)
/-- The tile a point stores: the two tables turned by the point's row. -/
def tileVal (C S : Tile F) (y : Vec F S8x1024 .f32) : Tile F :=
  shapeCast S512x1024 (k0_pay9 (rowOf y) (k0_pay4 (rowOf y)) (k0_pay5 (rowOf y)) k0_pay6 k0_pay7 k0_pay8 C S)
    squeezes_S1x512x1024_S512x1024.numel_eq

/-- A slot reads what is stored through its box. -/
theorem slot_stored (g : Fin 3) {off : Fin 3 → Nat} (e : off = ![g.val, 0, 0]) (h) (f : (bufM.access (Rect.unit (s := S3x512x1024) off S1x512x1024.size h)).ty.Contents (Elt F))
    (p : Vec F S1x512x1024 .f32) :
    (slot g).view.read (Elt F) ((bufM.access (Rect.unit (s := S3x512x1024) off S1x512x1024.size h)).write (Elt F) f p Finset.univ)
      = shapeCast S512x1024 p squeezes_S1x512x1024_S512x1024.numel_eq := by
  subst e
  funext j
  exact congrFun (View.read_write_univ (v := bufM.access (Rect.unit (s := S3x512x1024) ![g.val, 0, 0] S1x512x1024.size h)) f p) _

/-- A load of the point's row. -/
theorem row_load (arg2 : Memref sig .tc .vmem S8x1024 .f32) (harg2 : arg2.IsWhole) (y : Vec F S8x1024 .f32) :
    View.readAt (Elt F) arg2.view (Rect.unit (s := S8x1024) ![0, 0] S1x1024.size inb_S8x1024_S1x1024_0_0).toLoadRect (harg2.unread y) = rowOf y :=
  funext fun _ => congrFun (harg2.read_unread y) _

/-- The slot after the point's store: it reads the point's tile. -/
theorem slot_tile (g : Fin 3) {off : Fin 3 → Nat} (e : off = ![g.val, 0, 0]) (h) (f : (bufM.access (Rect.unit (s := S3x512x1024) off S1x512x1024.size h)).ty.Contents (Elt F))
    (arg2 : Memref sig .tc .vmem S8x1024 .f32) (harg2 : arg2.IsWhole) (y : Vec F S8x1024 .f32) (C S : Tile F) :
    (slot g).view.read (Elt F) ((bufM.access (Rect.unit (s := S3x512x1024) off S1x512x1024.size h)).write (Elt F) f
        (k0_pay9
          (View.readAt (Elt F) arg2.view (Rect.unit (s := S8x1024) ![0, 0] S1x1024.size inb_S8x1024_S1x1024_0_0).toLoadRect (harg2.unread y))
          (k0_pay4 (View.readAt (Elt F) arg2.view (Rect.unit (s := S8x1024) ![0, 0] S1x1024.size inb_S8x1024_S1x1024_0_0).toLoadRect (harg2.unread y)))
          (k0_pay5 (View.readAt (Elt F) arg2.view (Rect.unit (s := S8x1024) ![0, 0] S1x1024.size inb_S8x1024_S1x1024_0_0).toLoadRect (harg2.unread y)))
          k0_pay6 k0_pay7 k0_pay8
          (View.readAt (Elt F) (Memref.whole cc0_scratch0).view (Rect.unit (s := S512x1024) ![0, 0] S512x1024.size inb_S512x1024_S512x1024_0_0).toLoadRect C)
          (View.readAt (Elt F) (Memref.whole cc0_scratch1).view (Rect.unit (s := S512x1024) ![0, 0] S512x1024.size inb_S512x1024_S512x1024_0_0).toLoadRect S))
        Finset.univ)
      = tileVal C S y := by
  have hC : View.readAt (Elt F) (Memref.whole cc0_scratch0).view (Rect.unit (s := S512x1024) ![0, 0] S512x1024.size inb_S512x1024_S512x1024_0_0).toLoadRect C = C :=
    Memref.readAt_unit_zero (Elt F) cc0_scratch0 (by decide) _ C
  have hS : View.readAt (Elt F) (Memref.whole cc0_scratch1).view (Rect.unit (s := S512x1024) ![0, 0] S512x1024.size inb_S512x1024_S512x1024_0_0).toLoadRect S = S :=
    Memref.readAt_unit_zero (Elt F) cc0_scratch1 (by decide) _ S
  rw [hC, hS, row_load]
  exact slot_stored g e h f _

/-! ## The ring's parts -/

section Families
variable (c : Dev nD)

/-- Slot `g` held at share `q`, reading `v`. -/
abbrev slotAt (g : Fin 3) (q : PosShare TreeShare) (v : Tile F) : sProp 𝕄 :=
  (slot g).view.loc (c : Thread nD τ) ↦[(slot g).view.set]{q} (slot g).view.rep v
/-- Slot `g` held whole at something. -/
abbrev slotAny (g : Fin 3) : sProp 𝕄 :=
  iprop(∃ f : Buf (Elt F) ((slot g).view.loc (c : Thread nD τ)), (slot g).view.loc (c : Thread nD τ) ↦[(slot g).view.set]{fullShare} f)
/-- Piece (u, b) of the result, reading `v`. -/
abbrev pieceAt (u : Fin 16) (b : Fin 4) (v : Tile F) : sProp 𝕄 :=
  (piece u b).view.loc (c : Thread nD τ) ↦[(piece u b).view.set]{fullShare} (piece u b).view.rep v
/-- Piece (u, b) at something. -/
abbrev pieceAny (u : Fin 16) (b : Fin 4) : sProp 𝕄 :=
  iprop(∃ f : Buf (Elt F) ((piece u b).view.loc (c : Thread nD τ)), (piece u b).view.loc (c : Thread nD τ) ↦[(piece u b).view.set]{fullShare} f)
/-- Cell (g, b) at zero: no copy counted on it. -/
abbrev cellZero (g : Fin 3) (b : Fin 4) : sProp 𝕄 := semVal ((c : Thread nD τ), cellSem g b) 0
/-- The copy of slot `g`, reading `v`, into piece (u, b), in flight: it delivers the piece reading `v` and gives back
    the slot's quarter. -/
abbrev flight (g : Fin 3) (b : Fin 4) (u : Fin 16) (v : Tile F) : sProp 𝕄 :=
  Transfers.Flight countersEmb (c : Thread nD τ) (cellSem g b) default 65536
    iprop(pieceAt c u b v ∗ slotAt c g (quarter b) v)

/-- The four quarters of a slot make it whole, and back. -/
theorem slot_quarters (g : Fin 3) (v : Tile F) :
    iprop(slotAt c g (quarter 0) v ∗ slotAt c g (quarter 1) v ∗ slotAt c g (quarter 2) v ∗ slotAt c g (quarter 3) v)
      ⊣⊢ slotAt (F := F) c g fullShare v := by
  have e := pointsTo_share (Ix := Unit) (Val := Elt F) (Name := ℕ) (U := Pipeline.UD sig nD τ) (Lvl := ℕ)
    (ℓ := (slot g).view.loc (c : Thread nD τ)) (I := (slot g).view.set) (f := (slot g).view.rep v) (PosShare.mem_left_op_right fullShare)
  have el := pointsTo_share (Ix := Unit) (Val := Elt F) (Name := ℕ) (U := Pipeline.UD sig nD τ) (Lvl := ℕ)
    (ℓ := (slot g).view.loc (c : Thread nD τ)) (I := (slot g).view.set) (f := (slot g).view.rep v) (PosShare.mem_left_op_right fullShare.left)
  have er := pointsTo_share (Ix := Unit) (Val := Elt F) (Name := ℕ) (U := Pipeline.UD sig nD τ) (Lvl := ℕ)
    (ℓ := (slot g).view.loc (c : Thread nD τ)) (I := (slot g).view.set) (f := (slot g).view.rep v) (PosShare.mem_left_op_right fullShare.right)
  refine ⟨?_, ?_⟩
  · iintro ⟨H0, H1, H2, H3⟩
    iapply e.2
    isplitl [H0 H1]
    · iapply el.2
      isplitl [H0]
      · iexact H0
      iexact H1
    iapply er.2
    isplitl [H2]
    · iexact H2
    iexact H3
  · iintro H
    ihave H' := e.1 $$ H
    icases H' with ⟨HL, HR⟩
    ihave HL' := el.1 $$ HL
    icases HL' with ⟨H0, H1⟩
    ihave HR' := er.1 $$ HR
    icases HR' with ⟨H2, H3⟩
    isplitl [H0]
    · iexact H0
    isplitl [H1]
    · iexact H1
    isplitl [H2]
    · iexact H2
    iexact H3

/-- A slot held whole at contents that read `v` is lent out in four quarters reading `v`. -/
theorem slot_lend (g : Fin 3) (f : Buf (Elt F) ((slot g).view.loc (c : Thread nD τ))) (v : Tile F) (h : (slot g).view.read (Elt F) f = v) :
    ((slot g).view.loc (c : Thread nD τ) ↦[(slot g).view.set]{fullShare} f : sProp 𝕄)
      ⊢ iprop(slotAt c g (quarter 0) v ∗ slotAt c g (quarter 1) v ∗ slotAt c g (quarter 2) v ∗ slotAt c g (quarter 3) v) := by
  rw [pointsTo_rep, h]; exact (slot_quarters c g v).2

/-- A copy in flight that writes `w` over whatever the piece held is the copy that delivers the piece reading `w`. -/
theorem flight_settle (g : Fin 3) (b : Fin 4) (u : Fin 16) (f : Buf (Elt F) ((piece u b).view.loc (c : Thread nD τ))) (w v : Tile F) (h : w = v) :
    (Transfers.Flight countersEmb (c : Thread nD τ) (cellSem g b) default 65536
        iprop(((piece u b).view.loc (c : Thread nD τ) ↦[(piece u b).view.set]{fullShare}
            (piece u b).view.writes (Elt F) f [⟨Rect.whole S512x1024, w⟩]) ∗ slotAt c g (quarter b) v) : sProp 𝕄)
      ⊢ flight c g b u v := by
  subst h
  have key : (iprop(((piece u b).view.loc (c : Thread nD τ) ↦[(piece u b).view.set]{fullShare}
      (piece u b).view.writes (Elt F) f [⟨Rect.whole S512x1024, w⟩]) ∗ slotAt c g (quarter b) w) : sProp 𝕄)
      ⊢ iprop(pieceAt c u b w ∗ slotAt c g (quarter b) w) := by
    rw [pointsTo_rep (c : Thread nD τ) (piece u b), View.read_writes_whole]
  exact Transfers.Flight_mono countersEmb (c : Thread nD τ) key

/-- A piece over which `w` was copied reads `w`. -/
theorem piece_settle (u : Fin 16) (b : Fin 4) (f : Buf (Elt F) ((piece u b).view.loc (c : Thread nD τ))) (w v : Tile F) (h : w = v) :
    ((piece u b).view.loc (c : Thread nD τ) ↦[(piece u b).view.set]{fullShare}
        (piece u b).view.writes (Elt F) f [⟨Rect.whole S512x1024, w⟩] : sProp 𝕄)
      ⊢ pieceAt c u b v := by
  subst h; rw [pointsTo_rep (c : Thread nD τ) (piece u b), View.read_writes_whole]

/-- Slot `g`'s four copies into step `u`'s pieces, in flight. -/
abbrev flights (g : Fin 3) (u : Fin 16) (v : Tile F) : sProp 𝕄 :=
  iprop(flight c g 0 u v ∗ flight c g 1 u v ∗ flight c g 2 u v ∗ flight c g 3 u v)
/-- Step `u`'s four pieces, reading `v`. -/
abbrev piecesAt (u : Fin 16) (v : Tile F) : sProp 𝕄 :=
  iprop(pieceAt c u 0 v ∗ pieceAt c u 1 v ∗ pieceAt c u 2 v ∗ pieceAt c u 3 v)
/-- Step `u`'s four pieces, at something each. -/
abbrev piecesAny (u : Fin 16) : sProp 𝕄 :=
  iprop(pieceAny (F := F) c u 0 ∗ pieceAny (F := F) c u 1 ∗ pieceAny (F := F) c u 2 ∗ pieceAny (F := F) c u 3)
/-- Slot `g`'s four cells at zero. -/
abbrev cellsZero (g : Fin 3) : sProp 𝕄 :=
  iprop(cellZero (F := F) c g 0 ∗ cellZero (F := F) c g 1 ∗ cellZero (F := F) c g 2 ∗ cellZero (F := F) c g 3)
/-- Slot `g` free: its cells at zero, the slot at something. -/
abbrev slotFree (g : Fin 3) : sProp 𝕄 := iprop(cellsZero (F := F) c g ∗ slotAny (F := F) c g)

/-- A slot whose four quarters and cells are back is free. -/
theorem slot_free (g : Fin 3) (v : Tile F) :
    iprop(cellsZero (F := F) c g ∗ slotAt c g (quarter 0) v ∗ slotAt c g (quarter 1) v ∗ slotAt c g (quarter 2) v ∗ slotAt c g (quarter 3) v)
      ⊢ slotFree (F := F) c g := by
  iintro ⟨HC, HS⟩
  isplitl [HC]
  · iexact HC
  iexists _
  iapply (slot_quarters c g v).1
  iexact HS

end Families

end Cert.Table

end
-- ==== Proof.RunFirst.lean ====
/-
  What the kernel does at point 0.
-/
module

public import proofs.«01_k».proof.Proof.Tile

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The seed block loaded whole. -/
theorem seed_load (arg1 : Memref sig .tc .vmem S512x1024 .f32) (harg1 : arg1.IsWhole) (x : Tile F) :
    View.readAt (Elt F) arg1.view (Rect.unit (s := S512x1024) ![0, 0] S512x1024.size inb_S512x1024_S512x1024_0_0).toLoadRect (harg1.unread x) = x := by
  funext i
  refine (congrFun (harg1.read_unread x) _).trans (congrArg x (funext fun a => Fin.ext ?_))
  fin_cases a <;> exact (Nat.zero_add _).trans (Nat.one_mul _)

/-- The cos table after its store. -/
theorem table_cos (c : Dev nD) (arg1 : Memref sig .tc .vmem S512x1024 .f32) (harg1 : arg1.IsWhole) (x : Tile F)
    (f : Buf (Elt F) ((Memref.whole cc0_scratch0).view.loc (c : Thread nD τ))) :
    ((Memref.whole cc0_scratch0).view.loc (c : Thread nD τ) ↦{fullShare} (Memref.whole cc0_scratch0).view.writes (Elt F) f
        [⟨Rect.unit (s := S512x1024) ![0, 0] S512x1024.size inb_S512x1024_S512x1024_0_0,
          k0_pay2 (View.readAt (Elt F) arg1.view (Rect.unit (s := S512x1024) ![0, 0] S512x1024.size inb_S512x1024_S512x1024_0_0).toLoadRect (harg1.unread x))⟩] : sProp 𝕄)
      ⊢ wholeAt c (Memref.whole cc0_scratch0) (k0_pay2 x) := by
  rw [seed_load]
  have e : (Memref.whole cc0_scratch0).view.writes (Elt F) f
      [⟨Rect.unit (s := S512x1024) ![0, 0] S512x1024.size inb_S512x1024_S512x1024_0_0, k0_pay2 x⟩] = k0_pay2 x :=
    (View.writes_singleton _ _ _ _).trans
      (Memref.write_access_unit_zero_univ (Elt F) cc0_scratch0 (off := ![0, 0]) (by decide) _ f (k0_pay2 x))
  rw [e]

/-- The sin table after its store. -/
theorem table_sin (c : Dev nD) (arg1 : Memref sig .tc .vmem S512x1024 .f32) (harg1 : arg1.IsWhole) (x : Tile F)
    (f : Buf (Elt F) ((Memref.whole cc0_scratch1).view.loc (c : Thread nD τ))) :
    ((Memref.whole cc0_scratch1).view.loc (c : Thread nD τ) ↦{fullShare} (Memref.whole cc0_scratch1).view.writes (Elt F) f
        [⟨Rect.unit (s := S512x1024) ![0, 0] S512x1024.size inb_S512x1024_S512x1024_0_0,
          k0_pay3 (View.readAt (Elt F) arg1.view (Rect.unit (s := S512x1024) ![0, 0] S512x1024.size inb_S512x1024_S512x1024_0_0).toLoadRect (harg1.unread x))⟩] : sProp 𝕄)
      ⊢ wholeAt c (Memref.whole cc0_scratch1) (k0_pay3 x) := by
  rw [seed_load]
  have e : (Memref.whole cc0_scratch1).view.writes (Elt F) f
      [⟨Rect.unit (s := S512x1024) ![0, 0] S512x1024.size inb_S512x1024_S512x1024_0_0, k0_pay3 x⟩] = k0_pay3 x :=
    (View.writes_singleton _ _ _ _).trans
      (Memref.write_access_unit_zero_univ (Elt F) cc0_scratch1 (off := ![0, 0]) (by decide) _ f (k0_pay3 x))
  rw [e]

set_option maxHeartbeats 4000000 in
/-- Point 0: the two tables are built from the seed block; the point's tile is stored and copied out. -/
theorem run_first (c : Dev nD) (t : Fin cfg0.N) (arg1 : Memref sig .tc .vmem S512x1024 .f32) (harg1 : arg1.IsWhole)
    (arg2 : Memref sig .tc .vmem S8x1024 .f32) (harg2 : arg2.IsWhole) (h0 : t.val = 0)
    (x : Tile F) (y : Vec F S8x1024 .f32)  (W : Waits sig Unit) (K : PUnit → sProp 𝕄) :
    iprop(owns (c : Thread nD τ) arg1 fullShare x ∗ owns (c : Thread nD τ) arg2 fullShare y
        ∗ (∃ C, wholeAt (F := F) c (Memref.whole cc0_scratch0) C) ∗ (∃ S, wholeAt (F := F) c (Memref.whole cc0_scratch1) S)
        ∗ slotFree (F := F) c (Ring.sl 3 t.val)
        ∗ piecesAny (F := F) c (Ring.bk 16 t.val)
        ∗ owes (c : Thread nD τ) 0 W
        ∗ (iprop(owns (c : Thread nD τ) arg1 fullShare x ∗ owns (c : Thread nD τ) arg2 fullShare y
            ∗ wholeAt c (Memref.whole cc0_scratch0) (k0_pay2 x) ∗ wholeAt c (Memref.whole cc0_scratch1) (k0_pay3 x)
            ∗ flights c (Ring.sl 3 t.val) (Ring.bk 16 t.val) (tileVal (k0_pay2 x) (k0_pay3 x) y)
            ∗ (∃ W', owes (c : Thread nD τ) 0 W')) -∗ K ⟨⟩))
      ⊢ wp frame (wpE (defs₀ (F := F)) Variants.none c none) Set.univ
          (cc0__pe_block_kernel (grid0.coords t) arg1 harg1 arg2 harg2 outM (Memref.isWhole_whole _)
            (Memref.whole cc0_scratch0) (Memref.isWhole_whole _) (Memref.whole cc0_scratch1) (Memref.isWhole_whole _)
            bufM (Memref.isWhole_whole _) cc0_scratch3) K := by
  have hc1 : isFirst (grid0.coords t) := (first_iff t).mpr h0
  have hc2 : ¬k0_cond2 (grid0.coords t) = 1#1 := fun h => by have := (wait_iff t).mp h; omega
  have hc3 : ¬k0_cond3 (grid0.coords t) = 1#1 := fun h => by have := (last_iff t).mp h; omega
  simp only [cc0__pe_block_kernel_eq_skeleton]; unfold cc0__pe_block_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%C, HC⟩, ⟨%S, HS⟩, ⟨⟨HF0, HF1, HF2, HF3⟩, ⟨%w, Hslot⟩⟩, ⟨⟨%p0, Hp0⟩, ⟨%p1, Hp1⟩, ⟨%p2, Hp2⟩, ⟨%p3, Hp3⟩⟩, HW, Hk⟩
  obtain rfl := harg1.eq_unread hf0
  obtain rfl := harg2.eq_unread hf1
  (set_option sl_exec.maxSteps 9 in sl_exec (disch := first | sl_exact hc1 | sl_exact hc2 | sl_exact hc3))
  ihave HC := (table_cos (F := F) c arg1 harg1 x C) $$ HC
  ihave HS := (table_sin (F := F) c arg1 harg1 x S) $$ HS
  (set_option sl_exec.maxSteps 6 in sl_exec)
  have hv : (slot (Ring.sl 3 t.val)).view.read (Elt F) (run_first.sl.Hslot_w1 c t arg2 harg2 x y w) = tileVal (k0_pay2 x) (k0_pay3 x) y := by
    unfold run_first.sl.Hslot_w1 run_first.sl.r run_first.sl.r_1 run_first.sl.r_2
    exact slot_tile _ (off10_eq t) _ _ arg2 harg2 y (k0_pay2 x) (k0_pay3 x)
  ihave Hslot := (slot_lend (F := F) c (Ring.sl 3 t.val) _ (tileVal (k0_pay2 x) (k0_pay3 x) y) hv) $$ Hslot
  icases Hslot with ⟨Hq0, Hq1, Hq2, Hq3⟩
  sl_exec (disch := first | sl_exact hc3)
  sl_step
  have hd : run_first.sl.dma0 t x y = tileVal (k0_pay2 x) (k0_pay3 x) y := View.read_rep _ _
  ihave HF0 := (flight_settle (F := F) c (Ring.sl 3 t.val) 0 (Ring.bk 16 t.val) p0 _ (tileVal (k0_pay2 x) (k0_pay3 x) y) hd) $$ HF0
  ihave HF1 := (flight_settle (F := F) c (Ring.sl 3 t.val) 1 (Ring.bk 16 t.val) p1 _ (tileVal (k0_pay2 x) (k0_pay3 x) y) hd) $$ HF1
  ihave HF2 := (flight_settle (F := F) c (Ring.sl 3 t.val) 2 (Ring.bk 16 t.val) p2 _ (tileVal (k0_pay2 x) (k0_pay3 x) y) hd) $$ HF2
  ihave HF3 := (flight_settle (F := F) c (Ring.sl 3 t.val) 3 (Ring.bk 16 t.val) p3 _ (tileVal (k0_pay2 x) (k0_pay3 x) y) hd) $$ HF3
  iapply Hk
  isplitl [H0]
  · iexists _; isplitr
    · ipureintro; exact harg1.read_unread _
    iexact H0
  isplitl [H1]
  · iexists _; isplitr
    · ipureintro; exact harg2.read_unread _
    iexact H1
  isplitl [HC]
  · iexact HC
  isplitl [HS]
  · iexact HS
  isplitl [HF0 HF1 HF2 HF3]
  · isplitl [HF0]
    · iexact HF0
    isplitl [HF1]
    · iexact HF1
    isplitl [HF2]
    · iexact HF2
    iexact HF3
  iexists _; iexact HW

end Cert.Table

end
-- ==== Proof.RunBoot.lean ====
/-
  What the kernel does at points 1 and 2.
-/
module

public import proofs.«01_k».proof.Proof.Tile

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- Points 1 and 2: the slot is free; the point's tile is stored and copied out. -/
theorem run_boot (c : Dev nD) (t : Fin cfg0.N) (arg1 : Memref sig .tc .vmem S512x1024 .f32) (harg1 : arg1.IsWhole)
    (arg2 : Memref sig .tc .vmem S8x1024 .f32) (harg2 : arg2.IsWhole) (h0 : 1 ≤ t.val) (h3 : t.val < 3)
    (x : Tile F) (y : Vec F S8x1024 .f32) (C S : Tile F) (W : Waits sig Unit) (K : PUnit → sProp 𝕄) :
    iprop(owns (c : Thread nD τ) arg1 fullShare x ∗ owns (c : Thread nD τ) arg2 fullShare y
        ∗ wholeAt c (Memref.whole cc0_scratch0) C ∗ wholeAt c (Memref.whole cc0_scratch1) S
        ∗ slotFree (F := F) c (Ring.sl 3 t.val)
        ∗ piecesAny (F := F) c (Ring.bk 16 t.val)
        ∗ owes (c : Thread nD τ) 0 W
        ∗ (iprop(owns (c : Thread nD τ) arg1 fullShare x ∗ owns (c : Thread nD τ) arg2 fullShare y
            ∗ wholeAt c (Memref.whole cc0_scratch0) C ∗ wholeAt c (Memref.whole cc0_scratch1) S
            ∗ flights c (Ring.sl 3 t.val) (Ring.bk 16 t.val) (tileVal C S y)
            ∗ (∃ W', owes (c : Thread nD τ) 0 W')) -∗ K ⟨⟩))
      ⊢ wp frame (wpE (defs₀ (F := F)) Variants.none c none) Set.univ
          (cc0__pe_block_kernel (grid0.coords t) arg1 harg1 arg2 harg2 outM (Memref.isWhole_whole _)
            (Memref.whole cc0_scratch0) (Memref.isWhole_whole _) (Memref.whole cc0_scratch1) (Memref.isWhole_whole _)
            bufM (Memref.isWhole_whole _) cc0_scratch3) K := by
  have hc1 : ¬isFirst (grid0.coords t) := fun h => by have := (first_iff t).mp h; omega
  have hc2 : ¬k0_cond2 (grid0.coords t) = 1#1 := fun h => by have := (wait_iff t).mp h; omega
  have hc3 : ¬k0_cond3 (grid0.coords t) = 1#1 := fun h => by have := (last_iff t).mp h; omega
  simp only [cc0__pe_block_kernel_eq_skeleton]; unfold cc0__pe_block_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, HC, HS, ⟨⟨HF0, HF1, HF2, HF3⟩, ⟨%w, Hslot⟩⟩, ⟨⟨%p0, Hp0⟩, ⟨%p1, Hp1⟩, ⟨%p2, Hp2⟩, ⟨%p3, Hp3⟩⟩, HW, Hk⟩
  obtain rfl := harg1.eq_unread hf0
  obtain rfl := harg2.eq_unread hf1

  (set_option sl_exec.maxSteps 10 in sl_exec (disch := first | sl_exact hc1 | sl_exact hc2 | sl_exact hc3))
  have hv : (slot (Ring.sl 3 t.val)).view.read (Elt F) (run_boot.sl.Hslot_w1 c t arg2 harg2 y C S w) = tileVal C S y := by
    unfold run_boot.sl.Hslot_w1 run_boot.sl.r run_boot.sl.r_1 run_boot.sl.r_2
    exact slot_tile _ (off10_eq t) _ _ arg2 harg2 y C S
  ihave Hslot := (slot_lend (F := F) c (Ring.sl 3 t.val) _ (tileVal C S y) hv) $$ Hslot
  icases Hslot with ⟨Hq0, Hq1, Hq2, Hq3⟩
  sl_exec (disch := first | sl_exact hc3)
  sl_step
  have hd : run_boot.sl.dma0 t y C S = tileVal C S y := View.read_rep _ _
  ihave HF0 := (flight_settle (F := F) c (Ring.sl 3 t.val) 0 (Ring.bk 16 t.val) p0 _ (tileVal C S y) hd) $$ HF0
  ihave HF1 := (flight_settle (F := F) c (Ring.sl 3 t.val) 1 (Ring.bk 16 t.val) p1 _ (tileVal C S y) hd) $$ HF1
  ihave HF2 := (flight_settle (F := F) c (Ring.sl 3 t.val) 2 (Ring.bk 16 t.val) p2 _ (tileVal C S y) hd) $$ HF2
  ihave HF3 := (flight_settle (F := F) c (Ring.sl 3 t.val) 3 (Ring.bk 16 t.val) p3 _ (tileVal C S y) hd) $$ HF3
  iapply Hk
  isplitl [H0]
  · iexists _; isplitr
    · ipureintro; exact harg1.read_unread _
    iexact H0
  isplitl [H1]
  · iexists _; isplitr
    · ipureintro; exact harg2.read_unread _
    iexact H1
  isplitl [HC]
  · iexact HC
  isplitl [HS]
  · iexact HS
  isplitl [HF0 HF1 HF2 HF3]
  · isplitl [HF0]
    · iexact HF0
    isplitl [HF1]
    · iexact HF1
    isplitl [HF2]
    · iexact HF2
    iexact HF3
  iexists _; iexact HW

end Cert.Table

end
-- ==== Proof.RunSteady.lean ====
/-
  What the kernel does at a point in the middle of the grid.
-/
module

public import proofs.«01_k».proof.Proof.Tile

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- Points 3 … 14: the slot's four copies of three points ago land, the point's tile is stored and copied out again. -/
theorem run_steady (c : Dev nD) (t : Fin cfg0.N) (arg1 : Memref sig .tc .vmem S512x1024 .f32) (harg1 : arg1.IsWhole)
    (arg2 : Memref sig .tc .vmem S8x1024 .f32) (harg2 : arg2.IsWhole) (h3 : 3 ≤ t.val) (h15 : t.val < 15)
    (x : Tile F) (y : Vec F S8x1024 .f32) (C S w : Tile F) (W : Waits sig Unit) (K : PUnit → sProp 𝕄) :
    iprop(owns (c : Thread nD τ) arg1 fullShare x ∗ owns (c : Thread nD τ) arg2 fullShare y
        ∗ wholeAt c (Memref.whole cc0_scratch0) C ∗ wholeAt c (Memref.whole cc0_scratch1) S
        ∗ flights c (Ring.sl 3 t.val) (Ring.bk 16 (t.val - 3)) w
        ∗ piecesAny (F := F) c (Ring.bk 16 t.val)
        ∗ owes (c : Thread nD τ) 0 W
        ∗ (iprop(owns (c : Thread nD τ) arg1 fullShare x ∗ owns (c : Thread nD τ) arg2 fullShare y
            ∗ wholeAt c (Memref.whole cc0_scratch0) C ∗ wholeAt c (Memref.whole cc0_scratch1) S
            ∗ piecesAt c (Ring.bk 16 (t.val - 3)) w
            ∗ flights c (Ring.sl 3 t.val) (Ring.bk 16 t.val) (tileVal C S y)
            ∗ (∃ W', owes (c : Thread nD τ) 0 W')) -∗ K ⟨⟩))
      ⊢ wp frame (wpE (defs₀ (F := F)) Variants.none c none) Set.univ
          (cc0__pe_block_kernel (grid0.coords t) arg1 harg1 arg2 harg2 outM (Memref.isWhole_whole _)
            (Memref.whole cc0_scratch0) (Memref.isWhole_whole _) (Memref.whole cc0_scratch1) (Memref.isWhole_whole _)
            bufM (Memref.isWhole_whole _) cc0_scratch3) K := by
  have hc1 : ¬isFirst (grid0.coords t) := fun h => by have := (first_iff t).mp h; omega
  have hc2 : k0_cond2 (grid0.coords t) = 1#1 := (wait_iff t).mpr (by omega)
  have hc3 : ¬k0_cond3 (grid0.coords t) = 1#1 := fun h => by have := (last_iff t).mp h; omega
  simp only [cc0__pe_block_kernel_eq_skeleton]; unfold cc0__pe_block_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, HC, HS, ⟨HF0, HF1, HF2, HF3⟩, ⟨⟨%p0, Hp0⟩, ⟨%p1, Hp1⟩, ⟨%p2, Hp2⟩, ⟨%p3, Hp3⟩⟩, HW, Hk⟩
  obtain rfl := harg1.eq_unread hf0
  obtain rfl := harg2.eq_unread hf1
  sl_exec (disch := first | sl_exact hc1 | sl_exact hc2 | sl_exact hc3)
  ihave Hslot := (slot_quarters (F := F) c (Ring.sl 3 t.val) w).1 $$ [HF0_src HF1_src HF2_src HF3_src]
  · isplitl [HF0_src]
    · iexact HF0_src
    isplitl [HF1_src]
    · iexact HF1_src
    isplitl [HF2_src]
    · iexact HF2_src
    iexact HF3_src
  (set_option sl_exec.maxSteps 1 in sl_exec)
  have hv : (slot (Ring.sl 3 t.val)).view.read (Elt F) (run_steady.sl.Hslot_w1 c t arg2 harg2 y C S w) = tileVal C S y := by
    unfold run_steady.sl.Hslot_w1 run_steady.sl.r run_steady.sl.r_1 run_steady.sl.r_2
    exact slot_tile _ (off10_eq t) _ _ arg2 harg2 y C S
  ihave Hslot := (slot_lend (F := F) c (Ring.sl 3 t.val) _ (tileVal C S y) hv) $$ Hslot
  icases Hslot with ⟨Hq0, Hq1, Hq2, Hq3⟩
  sl_exec (disch := first | sl_exact hc3)
  sl_step
  have hd : run_steady.sl.dma0 t y C S = tileVal C S y := View.read_rep _ _
  ihave HF0 := (flight_settle (F := F) c (Ring.sl 3 t.val) 0 (Ring.bk 16 t.val) p0 _ (tileVal C S y) hd) $$ HF0
  ihave HF1 := (flight_settle (F := F) c (Ring.sl 3 t.val) 1 (Ring.bk 16 t.val) p1 _ (tileVal C S y) hd) $$ HF1
  ihave HF2 := (flight_settle (F := F) c (Ring.sl 3 t.val) 2 (Ring.bk 16 t.val) p2 _ (tileVal C S y) hd) $$ HF2
  ihave HF3 := (flight_settle (F := F) c (Ring.sl 3 t.val) 3 (Ring.bk 16 t.val) p3 _ (tileVal C S y) hd) $$ HF3
  iapply Hk
  isplitl [H0]
  · iexists _; isplitr
    · ipureintro; exact harg1.read_unread _
    iexact H0
  isplitl [H1]
  · iexists _; isplitr
    · ipureintro; exact harg2.read_unread _
    iexact H1
  isplitl [HC]
  · iexact HC
  isplitl [HS]
  · iexact HS
  isplitl [HF0_dst HF1_dst HF2_dst HF3_dst]
  · isplitl [HF0_dst]
    · iexact HF0_dst
    isplitl [HF1_dst]
    · iexact HF1_dst
    isplitl [HF2_dst]
    · iexact HF2_dst
    iexact HF3_dst
  isplitl [HF0 HF1 HF2 HF3]
  · isplitl [HF0]
    · iexact HF0
    isplitl [HF1]
    · iexact HF1
    isplitl [HF2]
    · iexact HF2
    iexact HF3
  iexists _; iexact HW

end Cert.Table

end
-- ==== Proof.RunLast.lean ====
/-
  What the kernel does at the last point, where everything in flight is drained.
-/
module

public import proofs.«01_k».proof.Proof.Tile

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- Point 15: the slot's four copies of three points ago land, the point's tile is stored and copied out; then the copies
    of points 13 and 14 and the point's own are waited for. -/
theorem run_last (c : Dev nD) (t : Fin cfg0.N) (arg1 : Memref sig .tc .vmem S512x1024 .f32) (harg1 : arg1.IsWhole)
    (arg2 : Memref sig .tc .vmem S8x1024 .f32) (harg2 : arg2.IsWhole) (h15 : t.val = 15)
    (x : Tile F) (y : Vec F S8x1024 .f32) (C S w w₁ w₂ : Tile F) (W : Waits sig Unit) (K : PUnit → sProp 𝕄) :
    iprop(owns (c : Thread nD τ) arg1 fullShare x ∗ owns (c : Thread nD τ) arg2 fullShare y
        ∗ wholeAt c (Memref.whole cc0_scratch0) C ∗ wholeAt c (Memref.whole cc0_scratch1) S
        ∗ flights c (Ring.sl 3 t.val) (Ring.bk 16 (t.val - 3)) w
        ∗ flights c (Ring.sl 3 (t.val + 1)) (Ring.bk 16 (t.val - 2)) w₁
        ∗ flights c (Ring.sl 3 (t.val + 2)) (Ring.bk 16 (t.val - 1)) w₂
        ∗ piecesAny (F := F) c (Ring.bk 16 t.val)
        ∗ owes (c : Thread nD τ) 0 W
        ∗ (iprop(owns (c : Thread nD τ) arg1 fullShare x ∗ owns (c : Thread nD τ) arg2 fullShare y
            ∗ wholeAt c (Memref.whole cc0_scratch0) C ∗ wholeAt c (Memref.whole cc0_scratch1) S
            ∗ piecesAt c (Ring.bk 16 (t.val - 3)) w ∗ piecesAt c (Ring.bk 16 (t.val - 2)) w₁
            ∗ piecesAt c (Ring.bk 16 (t.val - 1)) w₂ ∗ piecesAt c (Ring.bk 16 t.val) (tileVal C S y)
            ∗ slotFree (F := F) c (Ring.sl 3 t.val) ∗ slotFree (F := F) c (Ring.sl 3 (t.val + 1)) ∗ slotFree (F := F) c (Ring.sl 3 (t.val + 2))
            ∗ (∃ W', owes (c : Thread nD τ) 0 W')) -∗ K ⟨⟩))
      ⊢ wp frame (wpE (defs₀ (F := F)) Variants.none c none) Set.univ
          (cc0__pe_block_kernel (grid0.coords t) arg1 harg1 arg2 harg2 outM (Memref.isWhole_whole _)
            (Memref.whole cc0_scratch0) (Memref.isWhole_whole _) (Memref.whole cc0_scratch1) (Memref.isWhole_whole _)
            bufM (Memref.isWhole_whole _) cc0_scratch3) K := by
  have h3 : 3 ≤ t.val := by omega
  have hc1 : ¬isFirst (grid0.coords t) := fun h => by have := (first_iff t).mp h; omega
  have hc2 : k0_cond2 (grid0.coords t) = 1#1 := (wait_iff t).mpr (by omega)
  have hc3 : k0_cond3 (grid0.coords t) = 1#1 := (last_iff t).mpr h15
  simp only [cc0__pe_block_kernel_eq_skeleton]; unfold cc0__pe_block_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, HC, HS, ⟨HF0, HF1, HF2, HF3⟩, ⟨HG0, HG1, HG2, HG3⟩, ⟨HL0, HL1, HL2, HL3⟩, ⟨⟨%p0, Hp0⟩, ⟨%p1, Hp1⟩, ⟨%p2, Hp2⟩, ⟨%p3, Hp3⟩⟩, HW, Hk⟩
  obtain rfl := harg1.eq_unread hf0
  obtain rfl := harg2.eq_unread hf1
  sl_exec (disch := first | sl_exact hc1 | sl_exact hc2 | sl_exact hc3)
  ihave Hslot := (slot_quarters (F := F) c (Ring.sl 3 t.val) w).1 $$ [HF0_src HF1_src HF2_src HF3_src]
  · isplitl [HF0_src]
    · iexact HF0_src
    isplitl [HF1_src]
    · iexact HF1_src
    isplitl [HF2_src]
    · iexact HF2_src
    iexact HF3_src
  (set_option sl_exec.maxSteps 1 in sl_exec)
  have hv : (slot (Ring.sl 3 t.val)).view.read (Elt F) (run_last.sl.Hslot_w1 c t arg2 harg2 y C S w) = tileVal C S y := by
    unfold run_last.sl.Hslot_w1 run_last.sl.r run_last.sl.r_1 run_last.sl.r_2
    exact slot_tile _ (off10_eq t) _ _ arg2 harg2 y C S
  ihave Hslot := (slot_lend (F := F) c (Ring.sl 3 t.val) _ (tileVal C S y) hv) $$ Hslot
  icases Hslot with ⟨Hq0, Hq1, Hq2, Hq3⟩
  sl_exec (disch := first | sl_exact hc3)
  sl_step
  have hd : run_last.sl.dma0 t y C S = tileVal C S y := View.read_rep _ _
  ihave Hp0 := (piece_settle (F := F) c (Ring.bk 16 t.val) 0 p0 _ (tileVal C S y) hd) $$ Hp0
  ihave Hp1 := (piece_settle (F := F) c (Ring.bk 16 t.val) 1 p1 _ (tileVal C S y) hd) $$ Hp1
  ihave Hp2 := (piece_settle (F := F) c (Ring.bk 16 t.val) 2 p2 _ (tileVal C S y) hd) $$ Hp2
  ihave Hp3 := (piece_settle (F := F) c (Ring.bk 16 t.val) 3 p3 _ (tileVal C S y) hd) $$ Hp3
  iapply Hk
  isplitl [H0]
  · iexists _; isplitr
    · ipureintro; exact harg1.read_unread _
    iexact H0
  isplitl [H1]
  · iexists _; isplitr
    · ipureintro; exact harg2.read_unread _
    iexact H1
  isplitl [HC]
  · iexact HC
  isplitl [HS]
  · iexact HS
  isplitl [HF0_dst HF1_dst HF2_dst HF3_dst]
  · isplitl [HF0_dst]
    · iexact HF0_dst
    isplitl [HF1_dst]
    · iexact HF1_dst
    isplitl [HF2_dst]
    · iexact HF2_dst
    iexact HF3_dst
  isplitl [HG0_dst HG1_dst HG2_dst HG3_dst]
  · isplitl [HG0_dst]
    · iexact HG0_dst
    isplitl [HG1_dst]
    · iexact HG1_dst
    isplitl [HG2_dst]
    · iexact HG2_dst
    iexact HG3_dst
  isplitl [HL0_dst HL1_dst HL2_dst HL3_dst]
  · isplitl [HL0_dst]
    · iexact HL0_dst
    isplitl [HL1_dst]
    · iexact HL1_dst
    isplitl [HL2_dst]
    · iexact HL2_dst
    iexact HL3_dst
  isplitl [Hp0 Hp1 Hp2 Hp3]
  · isplitl [Hp0]
    · iexact Hp0
    isplitl [Hp1]
    · iexact Hp1
    isplitl [Hp2]
    · iexact Hp2
    iexact Hp3
  isplitl [HF0 HF1 HF2 HF3 Hq0 Hq1 Hq2 Hq3]
  · iapply (slot_free (F := F) c (Ring.sl 3 t.val) (tileVal C S y))
    isplitl [HF0 HF1 HF2 HF3]
    · isplitl [HF0]
      · iexact HF0
      isplitl [HF1]
      · iexact HF1
      isplitl [HF2]
      · iexact HF2
      iexact HF3
    isplitl [Hq0]
    · iexact Hq0
    isplitl [Hq1]
    · iexact Hq1
    isplitl [Hq2]
    · iexact Hq2
    iexact Hq3
  isplitl [HG0 HG1 HG2 HG3 HG0_src HG1_src HG2_src HG3_src]
  · iapply (slot_free (F := F) c (Ring.sl 3 (t.val + 1)) w₁)
    isplitl [HG0 HG1 HG2 HG3]
    · isplitl [HG0]
      · iexact HG0
      isplitl [HG1]
      · iexact HG1
      isplitl [HG2]
      · iexact HG2
      iexact HG3
    isplitl [HG0_src]
    · iexact HG0_src
    isplitl [HG1_src]
    · iexact HG1_src
    isplitl [HG2_src]
    · iexact HG2_src
    iexact HG3_src
  isplitl [HL0 HL1 HL2 HL3 HL0_src HL1_src HL2_src HL3_src]
  · iapply (slot_free (F := F) c (Ring.sl 3 (t.val + 2)) w₂)
    isplitl [HL0 HL1 HL2 HL3]
    · isplitl [HL0]
      · iexact HL0
      isplitl [HL1]
      · iexact HL1
      isplitl [HL2]
      · iexact HL2
      iexact HL3
    isplitl [HL0_src]
    · iexact HL0_src
    isplitl [HL1_src]
    · iexact HL1_src
    isplitl [HL2_src]
    · iexact HL2_src
    iexact HL3_src
  iexists _; iexact HW

end Cert.Table

end
-- ==== Proof.Steps.lean ====
/-
  The ring of three slots from one step to the next: what step `t` finds (its own pieces ahead, its slot in its role),
  and what it leaves. Over any families of resources.
-/
module

public import Idealize.ShloMosaic.Lib.Ring.WriteBehind

@[expose] public section

noncomputable section

namespace Cert.Table

open Idealize.SL Idealize.SL.RA
open Idealize.SL.BI (sProp bigSep bigSep_insert bigSep_empty)
open scoped Idealize.SL.BI
open Idealize.SL.BI.BIBase Idealize.SL.BI.Laws Idealize.SL.Sem Idealize.SL.ProofMode
open Idealize.ShloMosaic.Ring

variable {M : Type _} [URA M] {NB : ℕ} [NeZero NB]
variable (free : Fin 3 → sProp M) (infl : Fin 3 → Fin NB → sProp M) (ahead behind : Fin NB → sProp M)

/-- The role of the slot `j` steps on, one step later, is the role the slot had. -/
theorem role_shift (t j : ℕ) (h : j + 1 < 3) :
    roleB 3 free infl (t + 1) ⟨j, by omega⟩ = roleB 3 free infl t ⟨j + 1, h⟩ := by
  unfold roleB
  have e : t + 1 + j = t + (j + 1) := by omega
  simp only [e]
  by_cases hc : 3 ≤ t + (j + 1)
  · rw [if_pos ⟨hc, by omega⟩, if_pos ⟨hc, by omega⟩]
  · rw [if_neg (fun h => hc h.1), if_neg (fun h => hc h.1)]

/-- Step `t` finds its own pieces ahead. -/
theorem ring_open (t : ℕ) (ht : t < NB) :
    AtB 3 free infl ahead behind t
      = iprop((ahead (bk NB t) ∗ bigSep (aheadSet (t + 1)) ahead) ∗ bigSep (behindSet 3 t) behind
          ∗ roleB 3 free infl t 0 ∗ roleB 3 free infl t 1 ∗ roleB 3 free infl t 2) := by
  unfold AtB
  rw [aheadSet_open t ht, bigSep_put (bk_not_mem_aheadSet_succ t ht), bigSep_fin3]

/-- The last role after step `t`: step `t`'s copies in flight. -/
theorem role_own (t : ℕ) : roleB 3 free infl (t + 1) 2 = infl (sl 3 t) (bk NB t) := by
  rw [roleB_of_infl _ _ _ _ _ ⟨by simp, by simp⟩]
  have e : t + 1 + (2 : Fin 3).val = t + 3 := by simp
  rw [e, sl_add, Nat.add_sub_cancel]

/-- After a step that waits for nothing: the pieces behind as before, the step's copies in flight. -/
theorem ring_next_boot (t : ℕ) (h3 : t < 3) :
    AtB 3 free infl ahead behind (t + 1)
      = iprop(bigSep (aheadSet (t + 1)) ahead ∗ bigSep (behindSet 3 t) behind
          ∗ roleB 3 free infl t 1 ∗ roleB 3 free infl t 2 ∗ infl (sl 3 t) (bk NB t)) := by
  unfold AtB
  rw [behindSet_boot 3 (t + 1) (by omega), behindSet_boot 3 t (by omega), bigSep_fin3, role_own]
  rw [show roleB 3 free infl (t + 1) 0 = roleB 3 free infl t 1 from role_shift free infl t 0 (by omega),
    show roleB 3 free infl (t + 1) 1 = roleB 3 free infl t 2 from role_shift free infl t 1 (by omega)]

/-- After a step that waited for the copies of three steps ago: their pieces are behind. -/
theorem ring_next (t : ℕ) (h3 : 3 ≤ t) (ht : t < NB) :
    AtB 3 free infl ahead behind (t + 1)
      = iprop(bigSep (aheadSet (t + 1)) ahead ∗ (behind (bk NB (t - 3)) ∗ bigSep (behindSet 3 t) behind)
          ∗ roleB 3 free infl t 1 ∗ roleB 3 free infl t 2 ∗ infl (sl 3 t) (bk NB t)) := by
  unfold AtB
  rw [behindSet_close 3 t h3 ht, bigSep_put (bk_not_mem_behindSet 3 t h3 ht), bigSep_fin3, role_own]
  rw [show roleB 3 free infl (t + 1) 0 = roleB 3 free infl t 1 from role_shift free infl t 0 (by omega),
    show roleB 3 free infl (t + 1) 1 = roleB 3 free infl t 2 from role_shift free infl t 1 (by omega)]

/-- Step `t`'s slot before it: free at the first three steps, -/
theorem role_free (t : ℕ) (h3 : t < 3) : roleB 3 free infl t 0 = free (sl 3 t) :=
  roleB_of_free 3 free infl t 0 (by simp; omega)
/-- then in flight with the copies of three steps ago; -/
theorem role_here (t : ℕ) (h3 : 3 ≤ t) : roleB 3 free infl t 0 = infl (sl 3 t) (bk NB (t - 3)) :=
  roleB_of_infl 3 free infl t 0 ⟨by simpa using h3, by simp⟩
/-- the next step's slot, -/
theorem role_one (t : ℕ) (h3 : 3 ≤ t) : roleB 3 free infl t 1 = infl (sl 3 (t + 1)) (bk NB (t - 2)) := by
  rw [roleB_of_infl 3 free infl t 1 ⟨by simp; omega, by simp⟩]
  have e : t + (1 : Fin 3).val - 3 = t - 2 := by simp
  rw [e]; rfl
/-- and the one after it. -/
theorem role_two (t : ℕ) (h3 : 3 ≤ t) : roleB 3 free infl t 2 = infl (sl 3 (t + 2)) (bk NB (t - 1)) := by
  rw [roleB_of_infl 3 free infl t 2 ⟨by simp; omega, by simp⟩]
  have e : t + (2 : Fin 3).val - 3 = t - 1 := by simp
  rw [e]; rfl

/-- The three slots by role are the three slots. -/
theorem slots_from (P : Fin 3 → sProp M) (t : ℕ) :
    iprop(P (sl 3 t) ∗ P (sl 3 (t + 1)) ∗ P (sl 3 (t + 2))) ⊢ bigSep Finset.univ P := by
  rw [bigSep_fin3]
  have h : t % 3 = 0 ∨ t % 3 = 1 ∨ t % 3 = 2 := by omega
  rcases h with h | h | h
  · rw [show sl 3 t = 0 from Fin.ext (by simp [sl, h]), show sl 3 (t + 1) = 1 from Fin.ext (by simp [sl]; omega),
      show sl 3 (t + 2) = 2 from Fin.ext (by simp [sl]; omega)]
  · rw [show sl 3 t = 1 from Fin.ext (by simp [sl, h]), show sl 3 (t + 1) = 2 from Fin.ext (by simp [sl]; omega),
      show sl 3 (t + 2) = 0 from Fin.ext (by simp [sl]; omega)]
    iintro ⟨H1, H2, H0⟩
    isplitl [H0]
    · iexact H0
    isplitl [H1]
    · iexact H1
    iexact H2
  · rw [show sl 3 t = 2 from Fin.ext (by simp [sl, h]), show sl 3 (t + 1) = 0 from Fin.ext (by simp [sl]; omega),
      show sl 3 (t + 2) = 1 from Fin.ext (by simp [sl]; omega)]
    iintro ⟨H2, H0, H1⟩
    isplitl [H0]
    · iexact H0
    isplitl [H1]
    · iexact H1
    iexact H2

/-- After the last step, everything drained: every piece behind, every slot free. -/
theorem ring_drained (t : ℕ) (h3 : 3 ≤ t) (ht : t + 1 = NB) :
    iprop((behind (bk NB (t - 3)) ∗ behind (bk NB (t - 2)) ∗ behind (bk NB (t - 1)) ∗ behind (bk NB t) ∗ bigSep (behindSet 3 t) behind)
        ∗ free (sl 3 t) ∗ free (sl 3 (t + 1)) ∗ free (sl 3 (t + 2)))
      ⊢ AtBEnd free behind := by
  have b0 := bk_val (NB := NB) (show t < NB by omega)
  have b1 := bk_val (NB := NB) (show t - 1 < NB by omega)
  have b2 := bk_val (NB := NB) (show t - 2 < NB by omega)
  have b3 := bk_val (NB := NB) (show t - 3 < NB by omega)
  have e : (Finset.univ : Finset (Fin NB))
      = insert (bk NB (t - 3)) (insert (bk NB (t - 2)) (insert (bk NB (t - 1)) (insert (bk NB t) (behindSet 3 t)))) := by
    ext u
    simp only [Finset.mem_univ, Finset.mem_insert, mem_behindSet, true_iff, Fin.ext_iff, b0, b1, b2, b3]
    have := u.isLt; omega
  have n3 : bk NB (t - 3) ∉ insert (bk NB (t - 2)) (insert (bk NB (t - 1)) (insert (bk NB t) (behindSet (NB := NB) 3 t))) := by
    simp only [Finset.mem_insert, mem_behindSet, Fin.ext_iff, b0, b1, b2, b3]; omega
  have n2 : bk NB (t - 2) ∉ insert (bk NB (t - 1)) (insert (bk NB t) (behindSet (NB := NB) 3 t)) := by
    simp only [Finset.mem_insert, mem_behindSet, Fin.ext_iff, b0, b1, b2]; omega
  have n1 : bk NB (t - 1) ∉ insert (bk NB t) (behindSet (NB := NB) 3 t) := by
    simp only [Finset.mem_insert, mem_behindSet, Fin.ext_iff, b0, b1]; omega
  have n0 : bk NB t ∉ behindSet (NB := NB) 3 t := by rw [mem_behindSet, b0]; omega
  unfold AtBEnd
  rw [e, bigSep_put n3, bigSep_put n2, bigSep_put n1, bigSep_put n0]
  iintro ⟨HB, HF⟩
  isplitl [HB]
  · iexact HB
  iapply (slots_from free t)
  iexact HF

end Cert.Table

end
-- ==== Proof.Body.lean ====
/-
  The ring's invariant over the grid, and the kernel's body at every point: from the invariant before the point to the
  invariant after it.
-/
module

public import proofs.«01_k».proof.Proof.Gen.KernelIdeal.Frame
public import proofs.«01_k».proof.Proof.RunFirst
public import proofs.«01_k».proof.Proof.RunBoot
public import proofs.«01_k».proof.Proof.RunSteady
public import proofs.«01_k».proof.Proof.RunLast
public import proofs.«01_k».proof.Proof.Steps

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What the steps store -/

/-- The seed block: the argument's first 512 rows. -/
def seed (c : Dev nD) : Tile F := iblk m c 0 t0_0
/-- The block whose first row turns step `u`'s tile. -/
def turn (c : Dev nD) (u : Fin 16) : Vec F S8x1024 .f32 := iblk m c 1 (u.cast N_0.symm)
/-- The tile step `u` stores. -/
def stepTile (c : Dev nD) (u : Fin 16) : Tile F := tileVal (k0_pay2 (seed m c)) (k0_pay3 (seed m c)) (turn m c u)

theorem turn_at (c : Dev nD) (t : Fin cfg0.N) : turn m c (Ring.bk 16 t.val) = iblk m c 1 t := by
  have h : t.val < 16 := lt_of_lt_of_eq t.isLt N_0
  have e : (Ring.bk 16 t.val).cast N_0.symm = t := Fin.ext (Ring.bk_val (NB := 16) h)
  unfold turn; rw [e]
theorem seed_at (c : Dev nD) (t : Fin cfg0.N) (h : t.val = 0) : iblk m c 0 t = seed m c := by
  have e : t = t0_0 := Fin.ext h
  subst e; rfl
theorem stepTile_at (c : Dev nD) (t : Fin cfg0.N) :
    stepTile m c (Ring.bk 16 t.val) = tileVal (k0_pay2 (seed m c)) (k0_pay3 (seed m c)) (iblk m c 1 t) := by
  unfold stepTile; rw [turn_at]

/-! ## The invariant -/

/-- The two tables before step `k`: anything at first, then built from the seed block. -/
def tables (c : Dev nD) (k : ℕ) : sProp 𝕄 :=
  if k = 0 then iprop((∃ C, wholeAt (F := F) c (Memref.whole cc0_scratch0) C) ∗ (∃ S, wholeAt (F := F) c (Memref.whole cc0_scratch1) S))
  else iprop(wholeAt c (Memref.whole cc0_scratch0) (k0_pay2 (seed m c)) ∗ wholeAt c (Memref.whole cc0_scratch1) (k0_pay3 (seed m c)))

/-- Slot `g` in flight with step `u`'s copies. -/
def inflight (c : Dev nD) (g : Fin 3) (u : Fin 16) : sProp 𝕄 := flights c g u (stepTile m c u)
/-- Step `u`'s pieces landed. -/
def landed (c : Dev nD) (u : Fin 16) : sProp 𝕄 := piecesAt c u (stepTile m c u)
/-- Step `u`'s pieces not written yet. -/
def toWrite (c : Dev nD) (u : Fin 16) : sProp 𝕄 := piecesAny (F := F) c u
/-- Slot `g` free. -/
def freeSlot (c : Dev nD) (g : Fin 3) : sProp 𝕄 := slotFree (F := F) c g

/-- The scratch buffer's elements outside every slot. -/
def bufSpare (c : Dev nD) : sProp 𝕄 :=
  iprop(∃ f : Buf (Elt F) ((c : Thread nD τ).loc cc0_scratch2), ((c : Thread nD τ).loc cc0_scratch2) ↦[Finset.univ \ Finset.univ.biUnion slotSet]{fullShare} f)

/-- The invariant before step `k`. -/
def Inv (c : Dev nD) (k : ℕ) : sProp 𝕄 :=
  iprop((∃ r, prngReg c r) ∗ bufSpare (F := F) c ∗ tables m c k
    ∗ Ring.AtBΦ 3 (freeSlot (F := F) c) (inflight m c) (toWrite (F := F) c) (landed m c) k)

/-- The proof data: the arrays as the region finds them, each input's buffer left at its block, the invariant, nothing
    owed; the two windows of the one array share it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Inv m c t.val
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val := by
  dsimp only [dats]; simp only [Fin.val_castSucc]
theorem Inv_succ (c : Dev nD) (t : Fin cfg0.N) : (dats m 0 c).Φ t.succ = Inv m c (t.val + 1) := by
  dsimp only [dats]; simp only [Fin.val_succ]
theorem after_seed (c : Dev nD) (t : Fin cfg0.N) : (dats m 0 c).after 0 t = iblk m c 0 t := by dsimp only [dats]
theorem after_turn (c : Dev nD) (t : Fin cfg0.N) : (dats m 0 c).after 1 t = iblk m c 1 t := by dsimp only [dats]

/-- Each input's staging buffer holds its block at every point. -/
theorem before_seed (c : Dev nD) (t : Fin cfg0.N) (d) : (dats m 0 c).before 0 t d = iblk m c 0 t :=
  ((dats m 0 c).before_in_eq_fetched 0 rfl (fun _ => rfl) (fun _ _ _ => rfl)
    (fun t => by rw [after_seed]; unfold Dat.blockOf iblk; rw [A_eq]; try rfl) t d).trans
    (by unfold Dat.fetched Dat.blockOf iblk; rw [A_eq]; try rfl)
theorem before_turn (c : Dev nD) (t : Fin cfg0.N) (d) : (dats m 0 c).before 1 t d = iblk m c 1 t :=
  ((dats m 0 c).before_in_eq_fetched 1 rfl (fun _ => rfl) (fun _ _ _ => rfl)
    (fun t => by rw [after_turn]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem tables_built (c : Dev nD) (k : ℕ) (h : k ≠ 0) :
    tables m c k = iprop(wholeAt c (Memref.whole cc0_scratch0) (k0_pay2 (seed m c)) ∗ wholeAt c (Memref.whole cc0_scratch1) (k0_pay3 (seed m c))) :=
  if_neg h
theorem tables_first (c : Dev nD) (k : ℕ) (h : k = 0) :
    tables m c k = iprop((∃ C, wholeAt (F := F) c (Memref.whole cc0_scratch0) C) ∗ (∃ S, wholeAt (F := F) c (Memref.whole cc0_scratch1) S)) :=
  if_pos h

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_seed, before_turn]
  rw [after_seed, after_turn, Inv_castSucc m c t, Inv_succ m c t]
  unfold Dat.owesAt Pipeline.owesWithin
  rw [show (dats m 0 c).owed t.castSucc = 0 from rfl, show (dats m 0 c).owed t.succ = 0 from rfl]
  have hN : t.val < 16 := lt_of_lt_of_eq t.isLt N_0
  unfold Inv
  rw [Ring.AtBΦ_lt _ _ _ _ _ t.val hN, ring_open _ _ _ _ t.val hN, tables_built m c (t.val + 1) (by omega)]
  by_cases h3 : 3 ≤ t.val
  · rw [tables_built m c t.val (by omega), role_here _ _ _ h3]
    by_cases h15 : t.val = 15
    · rw [Ring.AtBΦ_end _ _ _ _ _ (t.val + 1) (by omega), role_one _ _ _ h3, role_two _ _ _ h3]
      iintro ⟨⟨Hg, Hsp, ⟨HC, HS⟩, ⟨Hmine, Hahead⟩, Hbehind, HF, HG, HL⟩, ⟨%W, -, HW⟩, ⟨%d0, H0⟩, ⟨%d1, H1⟩⟩
      iapply (run_last c t _ _ _ _ h15 (iblk m c 0 t) (iblk m c 1 t) (k0_pay2 (seed m c)) (k0_pay3 (seed m c))
        (stepTile m c (Ring.bk 16 (t.val - 3))) (stepTile m c (Ring.bk 16 (t.val - 2))) (stepTile m c (Ring.bk 16 (t.val - 1))) W _)
      isplitl [H0]; · iexact H0
      isplitl [H1]; · iexact H1
      isplitl [HC]; · iexact HC
      isplitl [HS]; · iexact HS
      isplitl [HF]; · unfold inflight; iexact HF
      isplitl [HG]; · unfold inflight; iexact HG
      isplitl [HL]; · unfold inflight; iexact HL
      isplitl [Hmine]; · unfold toWrite; iexact Hmine
      isplitl [HW]; · iexact HW
      rw [← stepTile_at]
      iintro ⟨H0, H1, HC, HS, HP3, HP2, HP1, HP0, HE0, HE1, HE2, ⟨%W', HW'⟩⟩
      isplitl [Hg Hsp HC HS Hbehind HP3 HP2 HP1 HP0 HE0 HE1 HE2]
      · isplitl [Hg]; · iexact Hg
        isplitl [Hsp]; · iexact Hsp
        isplitl [HC HS]
        · isplitl [HC]; · iexact HC
          iexact HS
        iapply (ring_drained (freeSlot (F := F) c) (landed m c) t.val h3 (by omega))
        isplitl [Hbehind HP3 HP2 HP1 HP0]
        · isplitl [HP3]; · unfold landed; iexact HP3
          isplitl [HP2]; · unfold landed; iexact HP2
          isplitl [HP1]; · unfold landed; iexact HP1
          isplitl [HP0]; · unfold landed; iexact HP0
          iexact Hbehind
        isplitl [HE0]; · unfold freeSlot; iexact HE0
        isplitl [HE1]; · unfold freeSlot; iexact HE1
        unfold freeSlot; iexact HE2
      isplitl [HW']
      · iexists W'; isplitr; · ipureintro; exact fun _ _ => Or.inl trivial
        iexact HW'
      isplitl [H0]; · iexact H0
      iexact H1
    · rw [Ring.AtBΦ_lt _ _ _ _ _ (t.val + 1) (by omega), ring_next _ _ _ _ t.val h3 hN]
      iintro ⟨⟨Hg, Hsp, ⟨HC, HS⟩, ⟨Hmine, Hahead⟩, Hbehind, HF, HG, HL⟩, ⟨%W, -, HW⟩, ⟨%d0, H0⟩, ⟨%d1, H1⟩⟩
      iapply (run_steady c t _ _ _ _ h3 (by omega) (iblk m c 0 t) (iblk m c 1 t) (k0_pay2 (seed m c)) (k0_pay3 (seed m c))
        (stepTile m c (Ring.bk 16 (t.val - 3))) W _)
      isplitl [H0]; · iexact H0
      isplitl [H1]; · iexact H1
      isplitl [HC]; · iexact HC
      isplitl [HS]; · iexact HS
      isplitl [HF]; · unfold inflight; iexact HF
      isplitl [Hmine]; · unfold toWrite; iexact Hmine
      isplitl [HW]; · iexact HW
      rw [← stepTile_at]
      iintro ⟨H0, H1, HC, HS, HP3, HN, ⟨%W', HW'⟩⟩
      isplitl [Hg Hsp HC HS Hahead Hbehind HG HL HP3 HN]
      · isplitl [Hg]; · iexact Hg
        isplitl [Hsp]; · iexact Hsp
        isplitl [HC HS]
        · isplitl [HC]; · iexact HC
          iexact HS
        isplitl [Hahead]; · iexact Hahead
        isplitl [Hbehind HP3]
        · isplitl [HP3]; · unfold landed; iexact HP3
          iexact Hbehind
        isplitl [HG]; · iexact HG
        isplitl [HL]; · iexact HL
        unfold inflight; iexact HN
      isplitl [HW']
      · iexists W'; isplitr; · ipureintro; exact fun _ _ => Or.inl trivial
        iexact HW'
      isplitl [H0]; · iexact H0
      iexact H1
  · rw [Ring.AtBΦ_lt _ _ _ _ _ (t.val + 1) (by omega), ring_next_boot _ _ _ _ t.val (by omega), role_free _ _ _ (by omega)]
    by_cases h0 : t.val = 0
    · rw [tables_first m c t.val h0]
      iintro ⟨⟨Hg, Hsp, ⟨HC, HS⟩, ⟨Hmine, Hahead⟩, Hbehind, HF, HG, HL⟩, ⟨%W, -, HW⟩, ⟨%d0, H0⟩, ⟨%d1, H1⟩⟩
      iapply (run_first c t _ _ _ _ h0 (iblk m c 0 t) (iblk m c 1 t) W _)
      isplitl [H0]; · iexact H0
      isplitl [H1]; · iexact H1
      isplitl [HC]; · iexact HC
      isplitl [HS]; · iexact HS
      isplitl [HF]; · unfold freeSlot; iexact HF
      isplitl [Hmine]; · unfold toWrite; iexact Hmine
      isplitl [HW]; · iexact HW
      rw [seed_at m c t h0, ← stepTile_at]
      iintro ⟨H0, H1, HC, HS, HN, ⟨%W', HW'⟩⟩
      isplitl [Hg Hsp HC HS Hahead Hbehind HG HL HN]
      · isplitl [Hg]; · iexact Hg
        isplitl [Hsp]; · iexact Hsp
        isplitl [HC HS]
        · isplitl [HC]; · iexact HC
          iexact HS
        isplitl [Hahead]; · iexact Hahead
        isplitl [Hbehind]; · iexact Hbehind
        isplitl [HG]; · iexact HG
        isplitl [HL]; · iexact HL
        unfold inflight; iexact HN
      isplitl [HW']
      · iexists W'; isplitr; · ipureintro; exact fun _ _ => Or.inl trivial
        iexact HW'
      isplitl [H0]; · iexact H0
      iexact H1
    · rw [tables_built m c t.val h0]
      iintro ⟨⟨Hg, Hsp, ⟨HC, HS⟩, ⟨Hmine, Hahead⟩, Hbehind, HF, HG, HL⟩, ⟨%W, -, HW⟩, ⟨%d0, H0⟩, ⟨%d1, H1⟩⟩
      iapply (run_boot c t _ _ _ _ (by omega) (by omega) (iblk m c 0 t) (iblk m c 1 t) (k0_pay2 (seed m c)) (k0_pay3 (seed m c)) W _)
      isplitl [H0]; · iexact H0
      isplitl [H1]; · iexact H1
      isplitl [HC]; · iexact HC
      isplitl [HS]; · iexact HS
      isplitl [HF]; · unfold freeSlot; iexact HF
      isplitl [Hmine]; · unfold toWrite; iexact Hmine
      isplitl [HW]; · iexact HW
      rw [← stepTile_at]
      iintro ⟨H0, H1, HC, HS, HN, ⟨%W', HW'⟩⟩
      isplitl [Hg Hsp HC HS Hahead Hbehind HG HL HN]
      · isplitl [Hg]; · iexact Hg
        isplitl [Hsp]; · iexact Hsp
        isplitl [HC HS]
        · isplitl [HC]; · iexact HC
          iexact HS
        isplitl [Hahead]; · iexact Hahead
        isplitl [Hbehind]; · iexact Hbehind
        isplitl [HG]; · iexact HG
        isplitl [HL]; · iexact HL
        unfold inflight; iexact HN
      isplitl [HW']
      · iexists W'; isplitr; · ipureintro; exact fun _ _ => Or.inl trivial
        iexact HW'
      isplitl [H0]; · iexact H0
      iexact H1

/-- The body table's row at a point is the body there. -/
theorem body_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

end Cert.Table

end
-- ==== Proof.Launch.lean ====
/-
  The launch: what the region is entered with is the invariant before the first step, what the invariant leaves after the
  last step is the result whole, at the array its pieces make up; and the run of the program.
-/
module

public import proofs.«01_k».proof.Proof.Body
public import Idealize.ShloMosaic.Lib.Pipeline.FrameValue
public import Idealize.ShloMosaic.Lib.ValueLayout

@[expose] public section

set_option maxRecDepth 16384

noncomputable section

namespace Cert.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The result's array -/

/-- The result: row `p` of batch `b` is row `p % 512` of the tile step `p / 512` stores. -/
def result (c : Dev nD) : Vec F S4x8192x1024 .f32 := fun i =>
  stepTile m c ⟨(i 1).val / 512, Nat.div_lt_of_lt_mul (i 1).isLt⟩ (ix2 ⟨(i 1).val % 512, Nat.mod_lt _ (by decide)⟩ (i 2))

/-- The pieces make up the whole result. -/
theorem pieces_cover : Finset.univ.biUnion pieceSet = Finset.univ := by
  ext i
  simp only [Finset.mem_biUnion, Finset.mem_univ, true_and, iff_true, Rect.mem_set_unit]
  have h0 : (i 0).val < 4 := (i 0).isLt
  have h1 : (i 1).val < 8192 := (i 1).isLt
  have h2 : (i 2).val < 1024 := (i 2).isLt
  refine ⟨(⟨(i 1).val / 512, by omega⟩, ⟨(i 0).val, h0⟩), fun a => ?_⟩
  fin_cases a
  · exact ⟨le_rfl, Nat.lt_succ_self _⟩
  · exact ⟨by show 512 * ((i 1).val / 512) ≤ (i 1).val; omega, by show (i 1).val < 512 * ((i 1).val / 512) + 512; omega⟩
  · exact ⟨Nat.zero_le _, by show (i 2).val < 0 + 1024; omega⟩

/-- Row `512 u + r` of any batch is row `r` of the tile of step `u`. -/
theorem result_at (c : Dev nD) (i : S4x8192x1024.Idx) (u : Fin 16) (r : Fin 512) (j : Fin 1024)
    (h : (i 1).val = 512 * u.val + r.val) (hj : (i 2).val = j.val) : result m c i = stepTile m c u (ix2 r j) := by
  have eu : (⟨(i 1).val / 512, Nat.div_lt_of_lt_mul (i 1).isLt⟩ : Fin 16) = u := Fin.ext (by show (i 1).val / 512 = u.val; have := r.isLt; omega)
  have er : (⟨(i 1).val % 512, Nat.mod_lt _ (by decide)⟩ : Fin 512) = r := Fin.ext (by show (i 1).val % 512 = r.val; have := r.isLt; omega)
  have ej : (i 2 : Fin 1024) = j := Fin.ext hj
  unfold result
  rw [eu, er, ej]

/-- Piece (u, b) of the result reads the tile of step `u`. -/
theorem result_piece (c : Dev nD) (u : Fin 16) (b : Fin 4) :
    (piece u b).view.read (Elt F) (result m c) = stepTile m c u := by
  funext j
  rw [eq_ix2 j]
  unfold piece
  refine (congrFun (Memref.read_squeeze_slice outM _ _ squeezes_S1x512x1024_S512x1024 squeezes_S1x512x1024_S512x1024.numel_eq _) _).trans ?_
  refine (shapeCast_1ab_ab_apply _ _ (j 0) (j 1)).trans ?_
  refine result_at m c _ u (j 0) (j 1) ?_ ?_
  · show 512 * u.val + 1 * (j 0).val = 512 * u.val + (j 0).val
    omega
  · show 0 + 1 * (j 1).val = (j 1).val
    omega

/-- A piece holding its step's tile is the result at that piece's elements. -/
theorem landed_eq (c : Dev nD) (u : Fin 16) (b : Fin 4) :
    pieceAt c u b (stepTile m c u) = (((c : Thread nD τ).loc main_v0) ↦[pieceSet (u, b)]{fullShare} result m c : sProp 𝕄) := by
  have e := pointsTo_rep (Ix := Unit) (Val := Elt F) (Name := ℕ) (U := Pipeline.UD sig nD τ) (Lvl := ℕ) (c : Thread nD τ) (piece u b) (result m c) fullShare
  rw [result_piece] at e
  unfold pieceAt
  rw [← e, piece_set]; rfl
/-- A piece held through its view is the result's elements of that piece held; -/
theorem toWrite_eq (c : Dev nD) (i : Fin 16 × Fin 4) (f : Buf (Elt F) ((c : Thread nD τ).loc main_v0)) :
    ((piece i.1 i.2).view.loc (c : Thread nD τ) ↦[(piece i.1 i.2).view.set]{fullShare} f : sProp 𝕄)
      = (((c : Thread nD τ).loc main_v0) ↦[pieceSet i]{fullShare} f : sProp 𝕄) := by
  rw [piece_set]; rfl
/-- a slot likewise. -/
theorem slotAny_eq (c : Dev nD) (g : Fin 3) (f : Buf (Elt F) ((c : Thread nD τ).loc cc0_scratch2)) :
    ((slot g).view.loc (c : Thread nD τ) ↦[(slot g).view.set]{fullShare} f : sProp 𝕄)
      = (((c : Thread nD τ).loc cc0_scratch2) ↦[slotSet g]{fullShare} f : sProp 𝕄) := by
  rw [slot_set]; rfl

/-- Four held side by side. -/
theorem four {M : Type} [URA M] (P : Fin 4 → sProp M) : bigSep Finset.univ P = iprop(P 0 ∗ P 1 ∗ P 2 ∗ P 3) :=
  bigSep_univ_eq_bigSepL [(0 : Fin 4), 1, 2, 3] (by decide) (by decide) P

/-! ## Into the ring and out of it -/

/-- The result whole at anything is its pieces to write. -/
theorem pieces_in (c : Dev nD) (f : Buf (Elt F) ((c : Thread nD τ).loc main_v0)) :
    (((c : Thread nD τ).loc main_v0) ↦{fullShare} f : sProp 𝕄) ⊢ bigSep Finset.univ (toWrite (F := F) c) := by
  have e : (bigSep Finset.univ (toWrite (F := F) c) : sProp 𝕄) = bigSep Finset.univ fun i : Fin 16 × Fin 4 => pieceAny (F := F) c i.1 i.2 := by
    rw [BI.bigSep_univ_prod]; exact BI.bigSep_congr fun u _ => (four _).symm
  rw [e]
  have h := Ring.pieces_split (Ix := Unit) (Val := Elt F) (Name := ℕ) (Lvl := ℕ) (U := Pipeline.UD sig nD τ) (ℓ := (c : Thread nD τ).loc main_v0) (q := fullShare)
    pieceSet pieces_disjoint pieces_cover
    (fun i f => ((piece i.1 i.2).view.loc (c : Thread nD τ) ↦[(piece i.1 i.2).view.set]{fullShare} f)) (fun i f => toWrite_eq c i f)
  iintro H
  iapply h
  iexists f; iexact H

/-- The landed pieces are the result whole, at its array. -/
theorem pieces_out (c : Dev nD) :
    bigSep Finset.univ (landed m c) ⊢ (((c : Thread nD τ).loc main_v0) ↦{fullShare} result m c : sProp 𝕄) := by
  have e : (bigSep Finset.univ (landed m c) : sProp 𝕄) = bigSep Finset.univ fun i : Fin 16 × Fin 4 => (((c : Thread nD τ).loc main_v0) ↦[pieceSet i]{fullShare} result m c) := by
    rw [BI.bigSep_univ_prod]
    exact BI.bigSep_congr fun u _ => ((four fun b => pieceAt c u b (stepTile m c u)).symm).trans (BI.bigSep_congr fun b _ => landed_eq m c u b)
  rw [e]
  exact Entails.of_eq (Ring.pointsTo_blocks (Ix := Unit) (Val := Elt F) (Name := ℕ) (Lvl := ℕ) (U := Pipeline.UD sig nD τ)
    (ℓ := (c : Thread nD τ).loc main_v0) (q := fullShare) pieceSet pieces_disjoint pieces_cover (result m c)).symm

/-- The twelve cells at zero, as the launch lists them. -/
abbrev cellsAll (c : Dev nD) : sProp 𝕄 := (Pipeline.ownSems0 (Ix := Unit) (Name := ℕ) (U := Pipeline.UD sig nD τ) (Lvl := ℕ) (Val := Elt F) (τ := τ) cellList c : sProp 𝕄)
/-- They are the cells (g, b). -/
theorem cells_eq (c : Dev nD) : (cellsAll (F := F) c : sProp 𝕄) = bigSep Finset.univ fun i : Fin 3 × Fin 4 => cellZero (F := F) c i.1 i.2 := by
  unfold cellsAll
  rw [Pipeline.ownSems0_eq_of_list c cellList [0, 1, 2, 3, 4, 5, 6, 7, 8, 9, 10, 11] (by decide) (by decide),
    BI.bigSep_eq_bigSepL_of_eq [((0 : Fin 3), (0 : Fin 4)), (0, 1), (0, 2), (0, 3), (1, 0), (1, 1), (1, 2), (1, 3), (2, 0), (2, 1), (2, 2), (2, 3)] (by decide) (by decide)]
  simp only [BI.bigSepL_cons_cons, BI.bigSepL_singleton, cellZero, cellSem_eq]
  rfl

/-- The cells and the slots, each at anything, are the free slots. -/
theorem slots_eq (c : Dev nD) :
    iprop(cellsAll (F := F) c ∗ bigSep Finset.univ fun g : Fin 3 => slotAny (F := F) c g) = (bigSep Finset.univ (freeSlot (F := F) c) : sProp 𝕄) := by
  have e : (bigSep Finset.univ (freeSlot (F := F) c) : sProp 𝕄)
      = bigSep Finset.univ fun g : Fin 3 => iprop((bigSep Finset.univ fun b : Fin 4 => cellZero (F := F) c g b) ∗ slotAny (F := F) c g) :=
    BI.bigSep_congr fun g _ => by rw [four]; rfl
  rw [e, cells_eq, BI.bigSep_univ_prod]
  exact (BI.bigSep_sep _ _ _).symm

/-- The scratch buffer whole at anything is its slots at something each and the spare elements; -/
theorem buf_in (c : Dev nD) :
    iprop(∃ f : Buf (Elt F) ((c : Thread nD τ).loc cc0_scratch2), ((c : Thread nD τ).loc cc0_scratch2) ↦{fullShare} f)
      ⊢ (iprop((bigSep Finset.univ fun g : Fin 3 => slotAny (F := F) c g) ∗ bufSpare (F := F) c) : sProp 𝕄) :=
  Ring.pieces_split_spare (Ix := Unit) (Val := Elt F) (Name := ℕ) (Lvl := ℕ) (U := Pipeline.UD sig nD τ) (ℓ := (c : Thread nD τ).loc cc0_scratch2) (q := fullShare)
    slotSet slots_disjoint (fun g f => ((slot g).view.loc (c : Thread nD τ) ↦[(slot g).view.set]{fullShare} f)) (fun g f => slotAny_eq c g f)
/-- and back. -/
theorem buf_out (c : Dev nD) :
    (iprop((bigSep Finset.univ fun g : Fin 3 => slotAny (F := F) c g) ∗ bufSpare (F := F) c) : sProp 𝕄)
      ⊢ iprop(∃ f : Buf (Elt F) ((c : Thread nD τ).loc cc0_scratch2), ((c : Thread nD τ).loc cc0_scratch2) ↦{fullShare} f) :=
  Ring.pieces_join_spare (Ix := Unit) (Val := Elt F) (Name := ℕ) (Lvl := ℕ) (U := Pipeline.UD sig nD τ) (ℓ := (c : Thread nD τ).loc cc0_scratch2) (q := fullShare)
    slotSet slots_disjoint (fun g f => ((slot g).view.loc (c : Thread nD τ) ↦[(slot g).view.set]{fullShare} f)) (fun g f => slotAny_eq c g f)

/-! ## The launch -/

/-- The cells are semaphores of the body's own. -/
theorem cellFacts : Pipeline.OwnSemFacts spec0 cellList := by decide
/-- The body copies out of no array left in HBM; -/
def read : Finset (Ref sig .tc) := ∅
/-- it writes the result. -/
def written : Finset (Ref sig .tc) := {main_v0}
/-- None of the former, and only the latter, is an array no window stages. -/
theorem read_sub : read ⊆ Pipeline.restRefs sig spec0 := by decide
theorem written_sub : written ⊆ Pipeline.restRefs sig spec0 \ read := by decide

/-- What the written array holds at the end. -/
def final (c : Dev nD) : (b : Ref sig .tc) → Buf (Elt F) ((c : Thread nD τ).loc b) :=
  Function.update (V m c) main_v0 (result m c)
/-- It is the result. -/
theorem final_result (c : Dev nD) : final m c main_v0 = result m c := Function.update_self _ _ _

/-- The written arrays held are the result held. -/
theorem routed_eq (c : Dev nD) (W : (b : Ref sig .tc) → Buf (Elt F) ((c : Thread nD τ).loc b)) :
    (Pipeline.routed written c W : sProp 𝕄)
      = (((c : Thread nD τ).loc main_v0) ↦{fullShare} W main_v0) := by
  unfold Pipeline.routed written
  rw [BI.bigSep_eq_bigSepL_of_eq [main_v0] (by decide) (by decide)]; rfl

/-- What the region is entered with is the invariant before step 0; -/
theorem hin (c : Dev nD) : Pipeline.ΦDRG cellList spec0 read written (V m) (V m) c ⊢ (dats m 0 c).Φ 0 := by
  rw [Pipeline.ΦDRG_eq, show (dats m 0 c).Φ 0 = Inv m c 0 from rfl, scopedRest0_eq]
  unfold Inv
  rw [tables_first m c 0 rfl, Ring.AtBΦ_lt _ _ _ _ _ 0 (by decide), Ring.AtB_zero]; unfold Ring.AtB₀
  rw [← slots_eq, routed_eq]
  iintro ⟨⟨HC, HS, HB⟩, Hg, HQ, -, HR⟩
  ihave HB' := (buf_in c) $$ HB
  icases HB' with ⟨HB, Hsp⟩
  isplitl [Hg]; · iexact Hg
  isplitl [Hsp]; · iexact Hsp
  isplitl [HC HS]
  · isplitl [HC]
    · iexact HC
    iexact HS
  isplitl [HR]
  · iapply pieces_in c (V m c main_v0)
    iexact HR
  isplitl [HQ]; · iexact HQ
  iexact HB

/-- the invariant after the last step is what the region is to give back. -/
theorem hout (c : Dev nD) : (dats m 0 c).Φ (Fin.last cfg0.N) ⊢ Pipeline.ΦDRG cellList spec0 read written (V m) (final m) c := by
  rw [Pipeline.ΦDRG_eq, show (dats m 0 c).Φ (Fin.last cfg0.N) = Inv m c grid0.N from rfl, scopedRest0_eq]
  unfold Inv
  rw [N_0, tables_built m c 16 (by decide), Ring.AtBΦ_ge _ _ _ _ _ 16 (by decide)]; unfold Ring.AtBEnd
  rw [← slots_eq, routed_eq, final_result]
  iintro ⟨Hg, Hsp, ⟨HC, HS⟩, HP, HQ, HB⟩
  ihave HB' := (buf_out c) $$ [HB Hsp]
  · isplitl [HB]
    · iexact HB
    iexact Hsp
  isplitl [HC HS HB']
  · isplitl [HC]; · iexists _; iexact HC
    isplitl [HS]; · iexists _; iexact HS
    iexact HB'
  isplitl [Hg]; · iexact Hg
  isplitl [HQ]; · iexact HQ
  isplitr; · iempintro
  iapply pieces_out m c
  iexact HP

set_option backward.isDefEq.respectTransparency.types false in
/-- The run of the program: every array but the result ends as launched, the result at its array, every counter at zero. -/
theorem run_main : θ_run defs (onTc (τ := τ) (main (F := F))) (s₀ m ρ)
    (fun r => Pipeline.FramePostRG cfgs (dats m) 0 written (V m) (final m) r ∧ r.2.sem = fun _ => 0) :=
  Pipeline.θ_run_frame_dmaRG_shared cfgs (dats m) (0 : Fin 1) launch₀0 cellList defs₀ Variants.none cellFacts read written read_sub written_sub m ρ main
    (hbody := fun c => (body_obligation m c).loose) (hq := fun _ _ _ => rfl) (howed := fun _ _ => rfl) (V := V m)
    (hmain := Pipeline.hmain_region cfgs 0 defs₀ Variants.none m main fun c => (main_chain c).trans rfl)
    (hA := A_eq m) (G := final m) (hin := hin m) (hout := hout m) (Q' := fun r => Pipeline.FramePostRG cfgs (dats m) 0 written (V m) (final m) r ∧ r.2.sem = fun _ => 0) (hQ' := fun _ h => h)

end Cert.Table

end
-- ==== Proof.Outcome.lean ====
/-
  What the program leaves: the result at its array, both arguments as they were, every counter at zero.
-/
module

public import proofs.«01_k».proof.Proof.Launch

@[expose] public section

set_option maxRecDepth 16384

noncomputable section

namespace Cert.Table

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Every execution from memory `m` ends with the result at `result m`, the arguments unchanged and every counter zero. -/
theorem outcome : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1.written c (Finset.mem_singleton_self main_v0)).trans (final_result m c),
     ((h.1.toR c).2 main_arg0 (Finset.mem_sdiff.mpr ⟨Pipeline.mem_restRefs_of main_arg0 (by decide) (by decide), by decide⟩)).trans (V_main_arg0 m c),
     (((h.1.toR c).1 1).trans (((dats m 0 c).arrAt_in 1 rfl _).trans (A_eq m c 1))).trans (V_main_arg1 m c)⟩, h.2⟩)
    (run_main m ρ)

/-- The run's frame alone: the arguments unchanged, every counter zero. -/
theorem outcome_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h.1 c).2, h.2⟩) (outcome m ρ)

end Cert.Table

end
-- ==== Proof.Same.lean ====
/-
  The program as printed and the program read over the extended reals have the same text: nothing was rewritten between
  the two. So a run of the one is a run of the other, over any float values.
-/
module

public import proofs.«01_k».proof.Proof.Gen.Kernel
public import proofs.«01_k».proof.Proof.Outcome
public import Idealize.ShloMosaic.PureOps.BitExact

@[expose] public section

set_option maxRecDepth 65536

noncomputable section

namespace Cert.Table

open Idealize.ShloMosaic Idealize.ShloMosaic.TcCoe Idealize.SL.Sem

variable {F : FTy → Type} [FloatOps F]

/-- The two programs' kernels are one. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are their tables of bodies, -/
theorem defs_same : Cert.Kernel.defs (F := F) = Cert.KernelIdeal.defs (F := F) := by
  unfold Cert.Kernel.defs Cert.KernelIdeal.defs
  exact congrArg (Pipeline.defs Cert.Kernel.pcfgs) defs₀_same

/-- and the calls they make. -/
theorem main_same : Cert.Kernel.main (F := F) = Cert.KernelIdeal.main (F := F) := rfl

/-- The program as printed runs with its arguments unchanged and every counter zero at the end. -/
theorem printed_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact outcome_frame m ρ

end Cert.Table

end
-- ==== Proof.TileMath.lean ====
/-
  The tile a step stores, element by element, over the extended reals: in an even column the step's row turned by the
  table's row as a sine, in an odd one as a cosine.
-/
module

public import proofs.«01_k».proof.Proof.Tile
public import Idealize.ShloMosaic.Lib.ValueLayout
public import Idealize.ShloMosaic.Lib.ValueIdx
public import Idealize.ShloMosaic.Lib.Pipeline.Value

@[expose] public section

set_option maxRecDepth 16384

noncomputable section

namespace Cert.Table

open Cert.KernelIdeal Cert.KernelIdeal.Gen
open Idealize.ShloMosaic Idealize.ShloMosaic.ValueIdx

/-! ## Columns turned by one -/

section Roll
variable {α : Type} {a : ℕ}

/-- Columns turned left by one, in a column that has a right neighbour: the neighbour. -/
theorem rollLeft_apply (x : (⟨2, ![a, 1024]⟩ : Shape).Idx → α) (h1 : (⟨2, ![a, 1024]⟩ : Shape).Slices ![0, 1] ⟨2, ![a, 1023]⟩)
    (h2 : (⟨2, ![a, 1024]⟩ : Shape).Slices ![0, 0] ⟨2, ![a, 1]⟩)
    (h3 : Shape.Concatenates [⟨2, ![a, 1023]⟩, ⟨2, ![a, 1]⟩] ⟨2, ![a, 1024]⟩ 1) (r : Fin a) (j k : Fin 1024) (hk : k.val = j.val + 1) :
    concatenate ⟨2, ![a, 1024]⟩ 1 [⟨⟨2, ![a, 1023]⟩, extractStridedSlice ⟨2, ![a, 1023]⟩ ![0, 1] x h1⟩,
      ⟨⟨2, ![a, 1]⟩, extractStridedSlice ⟨2, ![a, 1]⟩ ![0, 0] x h2⟩] h3 (ix2 r j) = x (ix2 r k) :=
  (concatenate_pair_apply_left 1 _ _ h3 (ix2 r j) rfl (ix2 r ⟨j.val, by have := k.isLt; omega⟩)
    (fun b => match b with | ⟨0, _⟩ => rfl | ⟨1, _⟩ => rfl)).trans
    (slice2_axis1_apply 1 x h1 r _ k (by show k.val = 1 + j.val; omega))

/-- Columns turned right by one, in a column that has a left neighbour: the neighbour. -/
theorem rollRight_apply (x : (⟨2, ![a, 1024]⟩ : Shape).Idx → α) (h1 : (⟨2, ![a, 1024]⟩ : Shape).Slices ![0, 1023] ⟨2, ![a, 1]⟩)
    (h2 : (⟨2, ![a, 1024]⟩ : Shape).Slices ![0, 0] ⟨2, ![a, 1023]⟩)
    (h3 : Shape.Concatenates [⟨2, ![a, 1]⟩, ⟨2, ![a, 1023]⟩] ⟨2, ![a, 1024]⟩ 1) (r : Fin a) (j k : Fin 1024) (hk : j.val = k.val + 1) :
    concatenate ⟨2, ![a, 1024]⟩ 1 [⟨⟨2, ![a, 1]⟩, extractStridedSlice ⟨2, ![a, 1]⟩ ![0, 1023] x h1⟩,
      ⟨⟨2, ![a, 1023]⟩, extractStridedSlice ⟨2, ![a, 1023]⟩ ![0, 0] x h2⟩] h3 (ix2 r j) = x (ix2 r k) :=
  (concatenate_pair_apply_right 1 _ _ h3 (ix2 r j) rfl rfl (ix2 r ⟨k.val, by have := j.isLt; omega⟩)
    (fun b hb => match b, hb with | ⟨0, _⟩, _ => rfl | ⟨1, _⟩, hb => absurd rfl hb) (by show k.val + 1 = j.val; omega)).trans
    (slice2_axis1_apply 0 x h2 r _ k (by show k.val = 0 + k.val; omega))

end Roll

/-! ## Even columns -/

/-- The mask of the tables' even columns. -/
theorem evenTile (r : Fin 512) (j : Fin 1024) : k0_pay1 (ix2 r j) = BitVec.ofBool (decide (j.val % 2 = 0)) := by
  have h : ∀ j : Fin 1024, k0_pay1 (ix2 (0 : Fin 512) j) = BitVec.ofBool (decide (j.val % 2 = 0)) := by decide +kernel
  exact (rfl : k0_pay1 (ix2 r j) = k0_pay1 (ix2 (0 : Fin 512) j)).trans (h j)

/-- The mask of the row's even columns, as the tile's payload computes it. -/
def rowMask : IVec S1x1024 1 := cmpi .eq (select k0_pay7 k0_pay8 k0_pay6) (broadcast S1x1024 0#32)
/-- It is set in the even columns. -/
theorem rowMask_apply : ∀ j : Fin 1024, rowMask (ix2 (0 : Fin 1) j) = BitVec.ofBool (decide (j.val % 2 = 0)) := by decide +kernel

/-! ## The tables -/

section Tables
variable {F : FTy → Type} [FloatOps F] (x : Tile F) (r : Fin 512) (j k : Fin 1024)

/-- In an even column the cosine table reads the seed's right neighbour; -/
theorem cosTable_even (hj : j.val % 2 = 0) (hk : k.val = j.val + 1) : k0_pay2 x (ix2 r j) = x (ix2 r k) := by
  unfold k0_pay2
  simp only [shapeCast_self]
  rw [select_apply, evenTile, hj]
  exact rollLeft_apply x _ _ concatenates_S512x1023_S512x1_S512x1024_d1 r j k hk
/-- in an odd column the seed itself. -/
theorem cosTable_odd (hj : j.val % 2 = 1) : k0_pay2 x (ix2 r j) = x (ix2 r j) := by
  unfold k0_pay2
  simp only [shapeCast_self]
  rw [select_apply, evenTile, hj]
  rfl
/-- In an even column the sine table reads the seed itself; -/
theorem sinTable_even (hj : j.val % 2 = 0) : k0_pay3 x (ix2 r j) = x (ix2 r j) := by
  unfold k0_pay3
  simp only [shapeCast_self]
  rw [select_apply, evenTile, hj]
  rfl
/-- in an odd column the seed's left neighbour. -/
theorem sinTable_odd (hj : j.val % 2 = 1) (hk : j.val = k.val + 1) : k0_pay3 x (ix2 r j) = x (ix2 r k) := by
  unfold k0_pay3
  simp only [shapeCast_self]
  rw [select_apply, evenTile, hj]
  exact rollRight_apply x _ _ concatenates_S512x1_S512x1023_S512x1024_d1 r j k hk

end Tables

/-! ## The tile -/

/-- The zero word reads the real zero. -/
theorem zeroWord : (Scalar.ofBits .f32 0x00000000#32 : Ideal .f32) = (0 : EReal) := by
  show Ideal.ofBits .f32 0x00000000#32 = 0
  simp [Ideal.ofBits, Ideal.ieee]

/-- The row's factor of the sine table: the right neighbour in an even column, the left one's negative in an odd column. -/
def factor (y : Vec Ideal S1x1024 .f32) : Vec Ideal S1x1024 .f32 :=
  select rowMask (k0_pay4 y) (subf (broadcast S1x1024 (Scalar.ofBits .f32 0x00000000#32)) (k0_pay5 y))

/-- It is so in an even column -/
theorem factor_even (y : Vec Ideal S1x1024 .f32) (j k : Fin 1024) (hj : j.val % 2 = 0) (hk : k.val = j.val + 1) :
    factor y (ix2 (0 : Fin 1) j) = y (ix2 (0 : Fin 1) k) := by
  unfold factor k0_pay4
  rw [select_apply, rowMask_apply, hj]
  exact rollLeft_apply y _ _ concatenates_S1x1023_S1x1_S1x1024_d1 0 j k hk
/-- and in an odd one. -/
theorem factor_odd (y : Vec Ideal S1x1024 .f32) (j k : Fin 1024) (hj : j.val % 2 = 1) (hk : j.val = k.val + 1) :
    factor y (ix2 (0 : Fin 1) j) = (0 : EReal) - y (ix2 (0 : Fin 1) k) := by
  unfold factor k0_pay5
  rw [select_apply, rowMask_apply, hj]
  refine (subf_apply _ _ _).trans ?_
  exact congrArg₂ (· - ·) zeroWord (rollRight_apply y _ _ concatenates_S1x1_S1x1023_S1x1024_d1 0 j k hk)

/-- An element of the tile: the row times the cosine table, plus the row's factor times the sine table. -/
theorem tile_apply (C S : Tile Ideal) (y : Vec Ideal S8x1024 .f32) (r : Fin 512) (j : Fin 1024) :
    tileVal C S y (ix2 r j)
      = rowOf y (ix2 (0 : Fin 1) j) * C (ix2 r j) + factor (rowOf y) (ix2 (0 : Fin 1) j) * S (ix2 r j) := by
  unfold tileVal k0_pay9
  simp only [shapeCast_shapeCast]
  refine (addf_apply _ _ _).trans ?_
  rw [mulf_apply, mulf_apply, broadcastTo_1b_ab_apply, broadcastTo_1b_ab_apply]
  rfl

/-- The row a step turns by is row 0 of its block. -/
theorem rowOf_apply (y : Vec Ideal S8x1024 .f32) (j : Fin 1024) : rowOf y (ix2 (0 : Fin 1) j) = y (ix2 (0 : Fin 8) j) := by
  unfold rowOf
  refine congrArg y (funext fun a => ?_)
  match a with
  | ⟨0, _⟩ => rfl
  | ⟨1, _⟩ => exact Fin.ext (by show 0 + 1 * j.val = j.val; omega)

/-- In an even column the tile is the sine of a sum: sine times cosine plus cosine times sine. -/
theorem tile_even (x : Tile Ideal) (y : Vec Ideal S8x1024 .f32) (r : Fin 512) (j k : Fin 1024) (hj : j.val % 2 = 0) (hk : k.val = j.val + 1) :
    tileVal (k0_pay2 x) (k0_pay3 x) y (ix2 r j)
      = y (ix2 (0 : Fin 8) j) * x (ix2 r k) + y (ix2 (0 : Fin 8) k) * x (ix2 r j) := by
  rw [tile_apply, cosTable_even x r j k hj hk, sinTable_even x r j hj, factor_even _ j k hj hk, rowOf_apply, rowOf_apply]
/-- In an odd column it is the cosine of a sum: cosine times cosine, the sines' product taken off. -/
theorem tile_odd (x : Tile Ideal) (y : Vec Ideal S8x1024 .f32) (r : Fin 512) (j k : Fin 1024) (hj : j.val % 2 = 1) (hk : j.val = k.val + 1) :
    tileVal (k0_pay2 x) (k0_pay3 x) y (ix2 r j)
      = y (ix2 (0 : Fin 8) j) * x (ix2 r j) + ((0 : EReal) - y (ix2 (0 : Fin 8) k)) * x (ix2 r k) := by
  rw [tile_apply, cosTable_odd x r j hj, sinTable_odd x r j k hj hk, factor_odd _ j k hj hk, rowOf_apply, rowOf_apply]

end Cert.Table

end
-- ==== Proof.Blocks.lean ====
/-
  What the steps are given, element by element: the seed is the table's first block of rows, and the block a step turns
  by starts at the table's row of that step.
-/
module

public import proofs.«01_k».proof.Proof.Body
public import Idealize.ShloMosaic.Lib.ValueIdxCore
public import Idealize.ShloMosaic.Lib.Pipeline.Value

@[expose] public section

set_option maxRecDepth 16384

noncomputable section

namespace Cert.Table

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The position table, the program's second argument. -/
def table (c : Dev nD) : Vec F S8192x1024 .f32 := m ((c.tc : Thread nD τ).loc main_arg1)

/-- The row a block of window 1 starts at: `64` blocks of eight rows a step. -/
theorem turn_index : ∀ u : Fin 16, win0_1.index (u.cast N_0.symm) 0 = 64 * u.val := by decide
/-- Its columns start at the first. -/
theorem turn_index' : ∀ u : Fin 16, win0_1.index (u.cast N_0.symm) 1 = 0 := by decide

/-- The seed reads the table's first 512 rows. -/
theorem seed_apply (c : Dev nD) (r : Fin 512) (j : Fin 1024) (p : Fin 8192) (hp : p.val = r.val) :
    seed m c (ix2 r j) = table m c (ix2 p j) := by
  unfold seed iblk table
  refine congrArg (m ((c.tc : Thread nD τ).loc main_arg1)) (funext fun a => ?_)
  match a with
  | ⟨0, _⟩ => exact Fin.ext ((Pipeline.Window.rect_emb_val win0_0 t0_0 (ix2 r j) 0).trans (by
      rw [show win0_0.index t0_0 0 = 0 from by decide]; show 0 * _ + r.val = p.val; omega))
  | ⟨1, _⟩ => exact Fin.ext ((Pipeline.Window.rect_emb_val win0_0 t0_0 (ix2 r j) 1).trans (by
      rw [show win0_0.index t0_0 1 = 0 from by decide]; show 0 * _ + j.val = j.val; omega))

/-- Row 0 of step `u`'s block reads the table's row `512 u`. -/
theorem turn_apply (c : Dev nD) (u : Fin 16) (j : Fin 1024) (p : Fin 8192) (hp : p.val = 512 * u.val) :
    turn m c u (ix2 (0 : Fin 8) j) = table m c (ix2 p j) := by
  unfold turn iblk table
  refine congrArg (m ((c.tc : Thread nD τ).loc main_arg1)) (funext fun a => ?_)
  match a with
  | ⟨0, _⟩ => exact Fin.ext ((Pipeline.Window.rect_emb_val win0_1 (u.cast N_0.symm) (ix2 (0 : Fin 8) j) 0).trans (by
      rw [turn_index]; show 64 * u.val * 8 + 0 = p.val; omega))
  | ⟨1, _⟩ => exact Fin.ext ((Pipeline.Window.rect_emb_val win0_1 (u.cast N_0.symm) (ix2 (0 : Fin 8) j) 1).trans (by
      rw [turn_index']; show 0 * _ + j.val = j.val; omega))

end Cert.Table

end
-- ==== Proof.Angle.lean ====
/-
  A pair of columns of a sinusoidal table, as two sequences of extended reals: where each row is the row before turned by
  row 1, a point of the unit circle, every entry is a real number and the rows obey the formulas of the sine and the cosine
  of a sum.
-/
module

public import Mathlib.Data.EReal.Operations
public import Mathlib.Tactic.Ring

@[expose] public section

namespace Cert.Table

/-- The point (sine, cosine) after `n` turns by the point (a, b). -/
noncomputable def turned (a b : ℝ) : ℕ → ℝ × ℝ
  | 0 => (0, 1)
  | n + 1 => ((turned a b n).1 * b + (turned a b n).2 * a, (turned a b n).2 * b - (turned a b n).1 * a)

/-- The formulas of a sum, for turns. -/
theorem turned_add (a b : ℝ) (p : ℕ) : ∀ r : ℕ,
    (turned a b (p + r)).1 = (turned a b p).1 * (turned a b r).2 + (turned a b p).2 * (turned a b r).1
      ∧ (turned a b (p + r)).2 = (turned a b p).2 * (turned a b r).2 - (turned a b p).1 * (turned a b r).1
  | 0 => ⟨by simp [turned], by simp [turned]⟩
  | r + 1 => by
    obtain ⟨h1, h2⟩ := turned_add a b p r
    constructor
    · show (turned a b (p + r)).1 * b + (turned a b (p + r)).2 * a = _
      rw [h1, h2]; simp only [turned]; ring
    · show (turned a b (p + r)).2 * b - (turned a b (p + r)).1 * a = _
      rw [h1, h2]; simp only [turned]; ring

/-- Two extended reals whose squares sum to one are real. -/
theorem real_of_circle (x y : EReal) (h : x * x + y * y = 1) : ∃ a b : ℝ, x = a ∧ y = b := by
  have top : (⊤ : EReal) ≠ 1 := EReal.top_ne_coe 1
  have sq : ∀ z : EReal, z * z = ⊤ ∨ ∃ a : ℝ, z = a := fun z => by
    induction z using EReal.rec with
    | bot => exact .inl EReal.bot_mul_bot
    | top => exact .inl EReal.top_mul_top
    | coe a => exact .inr ⟨a, rfl⟩
  rcases sq x with hx | ⟨a, rfl⟩
  · rcases sq y with hy | ⟨b, rfl⟩
    · rw [hx, hy] at h; exact absurd h top
    · rw [hx, ← EReal.coe_mul, EReal.top_add_coe] at h; exact absurd h top
  · rcases sq y with hy | ⟨b, rfl⟩
    · rw [hy, ← EReal.coe_mul, EReal.coe_add_top] at h; exact absurd h top
    · exact ⟨a, b, rfl, rfl⟩

/-- Sequences that start at (0, 1) and turn by their own entry 1, a point of the unit circle, are turns by real numbers. -/
theorem turns (N : ℕ) (s c : ℕ → EReal) (s0 : s 0 = 0) (c0 : c 0 = 1) (h1 : s 1 * s 1 + c 1 * c 1 = 1)
    (hs : ∀ p, p + 1 < N → s (p + 1) = s p * c 1 + c p * s 1)
    (hc : ∀ p, p + 1 < N → c (p + 1) = c p * c 1 - s p * s 1) :
    ∃ a b : ℝ, ∀ p < N, s p = ((turned a b p).1 : ℝ) ∧ c p = ((turned a b p).2 : ℝ) := by
  obtain ⟨a, b, ha, hb⟩ := real_of_circle _ _ h1
  refine ⟨a, b, fun p => ?_⟩
  induction p with
  | zero => exact fun _ => ⟨by rw [s0]; rfl, by rw [c0]; rfl⟩
  | succ p ih =>
    intro hp
    obtain ⟨e1, e2⟩ := ih (by omega)
    rw [hs p hp, hc p hp, e1, e2, ha, hb]
    simp only [turned, EReal.coe_add, EReal.coe_sub, EReal.coe_mul, and_self]

/-- So they obey the formulas of a sum, as the program writes them. -/
theorem sums (N : ℕ) (s c : ℕ → EReal) (s0 : s 0 = 0) (c0 : c 0 = 1) (h1 : s 1 * s 1 + c 1 * c 1 = 1)
    (hs : ∀ p, p + 1 < N → s (p + 1) = s p * c 1 + c p * s 1)
    (hc : ∀ p, p + 1 < N → c (p + 1) = c p * c 1 - s p * s 1) (p r : ℕ) (h : p + r < N) :
    s p * c r + c p * s r = s (p + r) ∧ c p * c r + (0 - s p) * s r = c (p + r) := by
  obtain ⟨a, b, hab⟩ := turns N s c s0 c0 h1 hs hc
  obtain ⟨e1, e2⟩ := hab p (by omega)
  obtain ⟨f1, f2⟩ := hab r (by omega)
  obtain ⟨g1, g2⟩ := hab (p + r) h
  obtain ⟨t1, t2⟩ := turned_add a b p r
  rw [e1, e2, f1, f2, g1, g2, t1, t2]
  constructor
  · simp only [EReal.coe_add, EReal.coe_mul]
  · rw [show (0 : EReal) = ((0 : ℝ) : EReal) from rfl, ← EReal.coe_sub, ← EReal.coe_mul, ← EReal.coe_mul, ← EReal.coe_add]
    exact congrArg _ (by ring)

end Cert.Table
-- ==== Proof.Sinusoidal.lean ====
/-
  What the precondition says of the table, entry by entry: in each pair of columns row 0 is (0, 1), row 1 is on the unit
  circle, and each row is the row before turned by row 1.
-/
module

public import proofs.«01_k».proof.Proof.Gen.Pre_sinusoidal
public import Idealize.ShloMosaic.Lib.ValueLayout
public import Idealize.ShloMosaic.Lib.ValueIdx
public import Idealize.ShloMosaic.Lib.WordCmp
public import Idealize.ShloMosaic.Lib.Pipeline.Value
public import Idealize.ShloMosaic.Lib.Pointwise.ShapeOpsCore

@[expose] public section

set_option maxRecDepth 16384

noncomputable section

namespace Cert.Table

open Cert.Pre_sinusoidal Cert.Pre_sinusoidal.Gen
open Idealize.ShloMosaic hiding ix2
open Idealize.ShloMosaic.ValueIdx

/-- The sine column of pair `i`; -/
def sinCol (i : Fin 512) : Fin 1024 := ⟨2 * i.val, by have := i.isLt; omega⟩
/-- its cosine column. -/
def cosCol (i : Fin 512) : Fin 1024 := ⟨2 * i.val + 1, by have := i.isLt; omega⟩

variable (pe : FVec Ideal S8192x1024 .f32)

/-- The even columns are the sine columns. -/
theorem sins_apply (h : S8192x1024.SlicesBy (![0, 0] : Fin 2 → Nat) ![1, 2] S8192x512) (p : Fin 8192) (i : Fin 512) :
    Host.slice S8192x512 ![0, 0] ![1, 2] pe h (ix2 p i) = pe (ix2 p (sinCol i)) := by
  refine (Host.slice_apply _ _ _ _ _).trans (congrArg pe (funext fun a => ?_))
  match a with
  | ⟨0, _⟩ => exact Fin.ext (by show 0 + 1 * p.val = p.val; omega)
  | ⟨1, _⟩ => exact Fin.ext (by show 0 + 2 * i.val = 2 * i.val; omega)
/-- The odd columns are the cosine columns. -/
theorem coss_apply (h : S8192x1024.SlicesBy (![0, 1] : Fin 2 → Nat) ![1, 2] S8192x512) (p : Fin 8192) (i : Fin 512) :
    Host.slice S8192x512 ![0, 1] ![1, 2] pe h (ix2 p i) = pe (ix2 p (cosCol i)) := by
  refine (Host.slice_apply _ _ _ _ _).trans (congrArg pe (funext fun a => ?_))
  match a with
  | ⟨0, _⟩ => exact Fin.ext (by show 0 + 1 * p.val = p.val; omega)
  | ⟨1, _⟩ => exact Fin.ext (by show 1 + 2 * i.val = 2 * i.val + 1; omega)

/-- Row 1 spread over all rows reads row 1. -/
theorem spread_apply (x : FVec Ideal S1x512 .f32) (h) (p : Fin 8191) (i : Fin 512) :
    broadcastInDim S8191x512 ![0, 1] h x (ix2 p i) = x (ix2 (0 : Fin 1) i) :=
  broadcastInDim_apply _ h x _ _ fun a => match a with | ⟨0, _⟩ => rfl | ⟨1, _⟩ => rfl

/-- The number spread over a row reads that number. -/
theorem fill_apply (b : BitVec 32) (h) (i : Fin 512) :
    broadcastInDim S1x512 ![] h (constant (F := Ideal) S_ .f32 b) (ix2 (0 : Fin 1) i) = Ideal.ofBits .f32 b := rfl

section Pieces
variable (A B : IVec S1x512 1) (C : IVec S8191x512 1) (h : Shape.Concatenates [S1x512, S1x512, S8191x512] S8193x512 0) (i : Fin 512)

/-- The precondition's first row is its first piece, -/
theorem piece_first : concatenate S8193x512 0 [⟨S1x512, A⟩, ⟨S1x512, B⟩, ⟨S8191x512, C⟩] h (ix2 (0 : Fin 8193) i) = A (ix2 (0 : Fin 1) i) :=
  concatenate_apply_piece (t := S8193x512) 0 [⟨S1x512, A⟩, ⟨S1x512, B⟩, ⟨S8191x512, C⟩] h _ 0 (by show 0 < 3; decide) S1x512 A rfl rfl 0 rfl _
    (fun b hb => match b, hb with | ⟨0, _⟩, hb => absurd rfl hb | ⟨1, _⟩, _ => rfl) rfl
/-- its second row its second, -/
theorem piece_second : concatenate S8193x512 0 [⟨S1x512, A⟩, ⟨S1x512, B⟩, ⟨S8191x512, C⟩] h (ix2 (1 : Fin 8193) i) = B (ix2 (0 : Fin 1) i) :=
  concatenate_apply_piece (t := S8193x512) 0 [⟨S1x512, A⟩, ⟨S1x512, B⟩, ⟨S8191x512, C⟩] h _ 1 (by show 1 < 3; decide) S1x512 B rfl rfl 1 rfl _
    (fun b hb => match b, hb with | ⟨0, _⟩, hb => absurd rfl hb | ⟨1, _⟩, _ => rfl) rfl
/-- and the rows after them its third. -/
theorem piece_third (p : Fin 8191) (q : Fin 8193) (hq : q.val = 2 + p.val) :
    concatenate S8193x512 0 [⟨S1x512, A⟩, ⟨S1x512, B⟩, ⟨S8191x512, C⟩] h (ix2 q i) = C (ix2 p i) :=
  concatenate_apply_piece (t := S8193x512) 0 [⟨S1x512, A⟩, ⟨S1x512, B⟩, ⟨S8191x512, C⟩] h _ 2 (by show 2 < 3; decide) S8191x512 C rfl rfl 2 rfl _
    (fun b hb => match b, hb with | ⟨0, _⟩, hb => absurd rfl hb | ⟨1, _⟩, _ => rfl) hq.symm

end Pieces

/-- A comparison and another, both true, are two equations. -/
theorem both {s : Shape} (a b c d : FVec Ideal s .f32) (i : s.Idx) (h : andi (cmpf .oeq a b) (cmpf .oeq c d) i = 1#1) :
    a i = b i ∧ c i = d i := by
  have h' : IntOp.andi (Ideal.cmp .oeq (a i) (b i)) (Ideal.cmp .oeq (c i) (d i)) = 1#1 := h
  obtain ⟨h1, h2⟩ := IntOp.andi_eq_one.1 h'
  exact ⟨(WordCmp.ofBool_decide_eq_one_iff _).1 h1, (WordCmp.ofBool_decide_eq_one_iff _).1 h2⟩

variable (x : IVec S4x8192 32) (H : Cert.Pre_sinusoidal.fn (F := Ideal) x pe = fun _ => 1#1)

include H

/-- Row 0 is (0, 1). -/
theorem first_row (i : Fin 512) : pe (ix2 (0 : Fin 8192) (sinCol i)) = (0 : EReal) ∧ pe (ix2 (0 : Fin 8192) (cosCol i)) = (1 : EReal) := by
  have e := congrFun H (ix2 (0 : Fin 8193) i)
  unfold fn fn_part1 at e
  dsimp only at e
  rw [piece_first] at e
  obtain ⟨e1, e2⟩ := both _ _ _ _ _ e
  rw [slice2_axis0_apply 0 _ _ _ _ (0 : Fin 8192) rfl, sins_apply, fill_apply] at e1
  rw [slice2_axis0_apply 0 _ _ _ _ (0 : Fin 8192) rfl, coss_apply, fill_apply] at e2
  refine ⟨e1.trans (by simp [Ideal.ofBits, Ideal.ieee]), e2.trans (by simp [Ideal.ofBits, Ideal.ieee, -EReal.coe_mul]; norm_num)⟩

/-- Row 1 is on the unit circle. -/
theorem on_circle (i : Fin 512) :
    (pe (ix2 (1 : Fin 8192) (sinCol i)) * pe (ix2 (1 : Fin 8192) (sinCol i)) + pe (ix2 (1 : Fin 8192) (cosCol i)) * pe (ix2 (1 : Fin 8192) (cosCol i)) : EReal) = 1 := by
  have e := congrFun H (ix2 (1 : Fin 8193) i)
  unfold fn fn_part1 at e
  dsimp only at e
  rw [piece_second] at e
  have e1 := (WordCmp.ofBool_decide_eq_one_iff _).1 e
  rw [addf_apply, mulf_apply, mulf_apply, slice2_axis0_apply 1 _ _ _ _ (1 : Fin 8192) rfl, slice2_axis0_apply 1 _ _ _ _ (1 : Fin 8192) rfl,
    sins_apply, coss_apply, fill_apply] at e1
  exact e1.trans (by simp [Ideal.ofBits, Ideal.ieee, -EReal.coe_mul]; norm_num)

/-- Each row is the row before turned by row 1. -/
theorem next_row (p q : Fin 8192) (hq : q.val = p.val + 1) (i : Fin 512) :
    pe (ix2 q (sinCol i)) = (pe (ix2 p (sinCol i)) * pe (ix2 (1 : Fin 8192) (cosCol i)) + pe (ix2 p (cosCol i)) * pe (ix2 (1 : Fin 8192) (sinCol i)) : EReal)
      ∧ pe (ix2 q (cosCol i)) = (pe (ix2 p (cosCol i)) * pe (ix2 (1 : Fin 8192) (cosCol i)) - pe (ix2 p (sinCol i)) * pe (ix2 (1 : Fin 8192) (sinCol i)) : EReal) := by
  have hp : p.val < 8191 := by have := q.isLt; omega
  have e := congrFun H (ix2 (⟨p.val + 2, by omega⟩ : Fin 8193) i)
  unfold fn fn_part1 at e
  dsimp only at e
  rw [piece_third _ _ _ _ i ⟨p.val, hp⟩ _ (by show p.val + 2 = 2 + p.val; omega)] at e
  obtain ⟨e1, e2⟩ := both _ _ _ _ _ e
  rw [addf_apply, mulf_apply, mulf_apply, spread_apply, spread_apply, slice2_axis0_apply 1 _ _ _ _ q (by show q.val = 1 + p.val; omega),
    slice2_axis0_apply 0 _ _ _ _ p (by show p.val = 0 + p.val; omega), slice2_axis0_apply 0 _ _ _ _ p (by show p.val = 0 + p.val; omega),
    slice2_axis0_apply 1 _ _ _ _ (1 : Fin 8192) rfl, slice2_axis0_apply 1 _ _ _ _ (1 : Fin 8192) rfl] at e1
  rw [subf_apply, mulf_apply, mulf_apply, spread_apply, spread_apply, slice2_axis0_apply 1 _ _ _ _ q (by show q.val = 1 + p.val; omega),
    slice2_axis0_apply 0 _ _ _ _ p (by show p.val = 0 + p.val; omega), slice2_axis0_apply 0 _ _ _ _ p (by show p.val = 0 + p.val; omega),
    slice2_axis0_apply 1 _ _ _ _ (1 : Fin 8192) rfl, slice2_axis0_apply 1 _ _ _ _ (1 : Fin 8192) rfl] at e2
  simp only [sins_apply, coss_apply] at e1 e2
  exact ⟨e1, e2⟩

end Cert.Table

end
-- ==== Proof.Equation.lean ====
/-
  The equation: under the precondition the program's result is the table's rows, once for each batch, which is what the
  reference computes.
-/
module

public import proofs.«01_k».proof.Proof.Launch
public import proofs.«01_k».proof.Proof.TileMath
public import proofs.«01_k».proof.Proof.Blocks
public import proofs.«01_k».proof.Proof.Angle
public import proofs.«01_k».proof.Proof.Sinusoidal
public import proofs.«01_k».proof.Proof.Gen.ReferenceIdeal

@[expose] public section

set_option maxRecDepth 16384

noncomputable section

namespace Cert.Table

open Cert.KernelIdeal Cert.KernelIdeal.Gen
open Idealize.ShloMosaic hiding ix2 ix3 eq_ix3
open Idealize.ShloMosaic.TcCoe Idealize.ShloMosaic.ValueIdx
open Idealize.SL.Sem

/-! ## The table's rows -/

section Rows
variable (x : IVec S4x8192 32) (pe : FVec Ideal S8192x1024 .f32) (H : Cert.Pre_sinusoidal.fn (F := Ideal) x pe = fun _ => 1#1)

/-- A column of the table, as a sequence. -/
def column (j : Fin 1024) (n : ℕ) : EReal := if h : n < 8192 then pe (ix2 (⟨n, h⟩ : Fin 8192) j) else 0
/-- It reads the table in the table's rows. -/
theorem column_apply (j : Fin 1024) (p : Fin 8192) : column pe j p.val = pe (ix2 p j) := dif_pos p.isLt
/-- It reads the table at a row given by its number. -/
theorem column_at (j : Fin 1024) (n : ℕ) (p : Fin 8192) (h : p.val = n) : column pe j n = pe (ix2 p j) := h ▸ column_apply pe j p

include H in
/-- The sine and the cosine of a sum, in the table's rows. -/
theorem row_sum (i : Fin 512) (p r q : Fin 8192) (hq : q.val = p.val + r.val) :
    (pe (ix2 p (sinCol i)) * pe (ix2 r (cosCol i)) + pe (ix2 p (cosCol i)) * pe (ix2 r (sinCol i)) : EReal) = pe (ix2 q (sinCol i))
      ∧ (pe (ix2 p (cosCol i)) * pe (ix2 r (cosCol i)) + (0 - pe (ix2 p (sinCol i))) * pe (ix2 r (sinCol i)) : EReal) = pe (ix2 q (cosCol i)) := by
  have one : ((1 : Fin 8192) : ℕ) = 1 := rfl
  have h := sums 8192 (column pe (sinCol i)) (column pe (cosCol i))
    ((column_at pe _ 0 0 rfl).trans (first_row pe x H i).1) ((column_at pe _ 0 0 rfl).trans (first_row pe x H i).2)
    (by rw [column_at pe _ 1 1 one, column_at pe _ 1 1 one]; exact on_circle pe x H i)
    (fun n hn => by
      rw [column_at pe _ (n + 1) ⟨n + 1, hn⟩ rfl, column_at pe _ n ⟨n, by omega⟩ rfl, column_at pe _ n ⟨n, by omega⟩ rfl,
        column_at pe _ 1 1 one, column_at pe _ 1 1 one]
      exact (next_row pe x H ⟨n, by omega⟩ ⟨n + 1, hn⟩ rfl i).1)
    (fun n hn => by
      rw [column_at pe _ (n + 1) ⟨n + 1, hn⟩ rfl, column_at pe _ n ⟨n, by omega⟩ rfl, column_at pe _ n ⟨n, by omega⟩ rfl,
        column_at pe _ 1 1 one, column_at pe _ 1 1 one]
      exact (next_row pe x H ⟨n, by omega⟩ ⟨n + 1, hn⟩ rfl i).2)
    p.val r.val (hq ▸ q.isLt)
  rw [← hq] at h
  simp only [column_apply] at h
  exact h

end Rows

/-! ## The result -/

variable (m : (ℓ : Loc nD τ sig) → Buf (Elt Ideal) ℓ) (c : Dev nD) (x : IVec S4x8192 32)
  (H : Cert.Pre_sinusoidal.fn (F := Ideal) x (table m c) = fun _ => 1#1)

include H in
/-- An element of the tile a step stores is the table's, in the row the tile's row is of the result. -/
theorem stepTile_apply (u : Fin 16) (r : Fin 512) (j : Fin 1024) (q : Fin 8192) (hq : q.val = 512 * u.val + r.val) :
    stepTile m c u (ix2 r j) = table m c (ix2 q j) := by
  have hr : r.val < 8192 := by have := r.isLt; omega
  have hu : 512 * u.val < 8192 := by have := u.isLt; omega
  rcases Nat.mod_two_eq_zero_or_one j.val with hj | hj
  · obtain ⟨i, rfl⟩ : ∃ i, j = sinCol i := ⟨⟨j.val / 2, by have := j.isLt; omega⟩, Fin.ext (by show j.val = 2 * (j.val / 2); omega)⟩
    refine (tile_even _ _ r (sinCol i) (cosCol i) hj rfl).trans ?_
    rw [turn_apply m c u _ ⟨512 * u.val, hu⟩ rfl, turn_apply m c u _ ⟨512 * u.val, hu⟩ rfl, seed_apply m c r _ ⟨r.val, hr⟩ rfl, seed_apply m c r _ ⟨r.val, hr⟩ rfl]
    exact (row_sum x _ H i ⟨512 * u.val, hu⟩ ⟨r.val, hr⟩ q hq).1
  · obtain ⟨i, rfl⟩ : ∃ i, j = cosCol i := ⟨⟨j.val / 2, by have := j.isLt; omega⟩, Fin.ext (by show j.val = 2 * (j.val / 2) + 1; omega)⟩
    refine (tile_odd _ _ r (cosCol i) (sinCol i) hj rfl).trans ?_
    rw [turn_apply m c u _ ⟨512 * u.val, hu⟩ rfl, turn_apply m c u _ ⟨512 * u.val, hu⟩ rfl, seed_apply m c r _ ⟨r.val, hr⟩ rfl, seed_apply m c r _ ⟨r.val, hr⟩ rfl]
    exact (row_sum x _ H i ⟨512 * u.val, hu⟩ ⟨r.val, hr⟩ q hq).2

include H in
/-- The result is the reference's value: the table, once for each batch. -/
theorem result_eq (h1) (h2) :
    result m c = broadcastInDim Cert.ReferenceIdeal.S4x8192x1024 ![0, 1, 2] h2
      (broadcastInDim Cert.ReferenceIdeal.S1x8192x1024 ![1, 2] h1 (table m c)) := by
  funext i
  rw [eq_ix3 i]
  have hp := (i 1).isLt
  refine (result_at m c (ix3 (i 0) (i 1) (i 2)) ⟨(i 1).val / 512, Nat.div_lt_of_lt_mul hp⟩ ⟨(i 1).val % 512, Nat.mod_lt _ (by decide)⟩ (i 2)
    (by show (i 1).val = 512 * ((i 1).val / 512) + (i 1).val % 512; omega) rfl).trans ?_
  refine (stepTile_apply m c x H _ _ (i 2) (i 1) (by show (i 1).val = 512 * ((i 1).val / 512) + (i 1).val % 512; omega)).trans ?_
  refine Eq.symm ((broadcastInDim_apply _ h2 _ _ (ix3 (0 : Fin 1) (i 1) (i 2)) fun a => ?_).trans
    (broadcastInDim_apply _ h1 _ _ (ix2 (i 1) (i 2)) fun a => ?_))
  · match a with | ⟨0, _⟩ => rfl | ⟨1, _⟩ => rfl | ⟨2, _⟩ => rfl
  · match a with | ⟨0, _⟩ => rfl | ⟨1, _⟩ => rfl

end Cert.Table

end
-- ==== Proof.lean ====
/-
  The proof of `Cert.Claim`: every program leaves its arguments and its semaphores as it should, and over the reals, for a
  sinusoidal table, the kernel computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_sinusoidal
public import proofs.«01_k».proof.Proof.Gen.ReferenceIdeal.Run
public import proofs.«01_k».proof.Proof.Outcome
public import proofs.«01_k».proof.Proof.Same
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference leaves its arguments alone; it has no semaphore, so no counter that could be other than zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems (by decide) r.2⟩)
    (Cert.ReferenceIdeal.Value.run m ρ)

/-- Over the reals, from equal arguments whose table is sinusoidal, the kernel and the reference end with one value. -/
theorem same_value : Cert.algebraic_KernelIdeal_ReferenceIdeal_pre_sinusoidal
    (hKernelIdeal := Cert.KernelIdeal.Gen.facts) (hReferenceIdeal := Cert.ReferenceIdeal.Gen.facts)
    (hPre_sinusoidal := Cert.Pre_sinusoidal.Gen.facts) := by
  intro m g m' g' hpre hargs
  refine ⟨fun c => Cert.Table.result m c, (θ_run _ _ _).mono (fun r h => h.1) (Cert.Table.outcome m g),
    (θ_run _ _ _).mono (fun r h c => ⟨(h c).1.trans ?_, (h c).2⟩) (Cert.ReferenceIdeal.Value.run m' g')⟩
  rw [(hargs c).2]
  exact (Cert.Table.result_eq m c _ (hpre c) _ _).symm

theorem claim : Cert.Claim :=
  ⟨Cert.Kernel.Gen.facts, Cert.KernelIdeal.Gen.facts, Cert.ReferenceIdeal.Gen.facts, Cert.Pre_sinusoidal.Gen.facts,
    fun m g _ => Cert.Table.printed_frame m g, fun m g _ => Cert.Table.outcome_frame m g,
    fun m g _ => Cert.Table.outcome_frame m g, fun m g _ => reference_frame m g, fun m g _ => reference_frame m g,
    trivial, same_value⟩

end Cert.Proof

end
